-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_in_range_KernelIdeal [hPre_labels_in_range_KernelIdeal : Cert.Pre_labels_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range_ReferenceIdeal [hPre_labels_in_range_ReferenceIdeal : Cert.Pre_labels_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_labels_in_range_KernelIdeal [hKernelIdeal : Cert.KernelIdeal.Facts] [hPre_labels_in_range_KernelIdeal : Cert.Pre_labels_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_labels_in_range_ReferenceIdeal [hReferenceIdeal : Cert.ReferenceIdeal.Facts] [hPre_labels_in_range_ReferenceIdeal : Cert.Pre_labels_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_labels_in_range_KernelIdeal [hKernelIdeal : Cert.KernelIdeal.Facts] [hReferenceIdeal : Cert.ReferenceIdeal.Facts] [hPre_labels_in_range_KernelIdeal : Cert.Pre_labels_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![512, 4096]⟩ ⟨2, ![512, 16384]⟩ (Layout.meshBlock [2, 4, 4] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels_in_range_KernelIdeal : Cert.Pre_labels_in_range_KernelIdeal.Facts) (hPre_labels_in_range_ReferenceIdeal : Cert.Pre_labels_in_range_ReferenceIdeal.Facts),
    quiescent_Kernel (hKernel := hKernel)
    ∧ quiescent_KernelIdeal (hKernelIdeal := hKernelIdeal)
    ∧ quiescent_KernelIdeal_pre_labels_in_range_KernelIdeal (hKernelIdeal := hKernelIdeal) (hPre_labels_in_range_KernelIdeal := hPre_labels_in_range_KernelIdeal)
    ∧ quiescent_ReferenceIdeal (hReferenceIdeal := hReferenceIdeal)
    ∧ quiescent_ReferenceIdeal_pre_labels_in_range_ReferenceIdeal (hReferenceIdeal := hReferenceIdeal) (hPre_labels_in_range_ReferenceIdeal := hPre_labels_in_range_ReferenceIdeal)
    ∧ preserves_Kernel_KernelIdeal
    ∧ algebraic_KernelIdeal_ReferenceIdeal_pre_labels_in_range_KernelIdeal (hKernelIdeal := hKernelIdeal) (hReferenceIdeal := hReferenceIdeal) (hPre_labels_in_range_KernelIdeal := hPre_labels_in_range_KernelIdeal)
-- ==== Pre_labels_in_range_KernelIdeal.lean ====
abbrev S256x512 : Shape := ⟨2, ![256, 512]⟩
abbrev S512x4096 : Shape := ⟨2, ![512, 4096]⟩
abbrev S256 : Shape := ⟨1, ![256]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel

variable [Facts]

def fn {F : FTy → Type} [FloatOps F] (main_arg0 : FVec F S256x512 .f32) (main_arg1 : FVec F S512x4096 .f32) (main_arg2 : IVec S256 32) : IVec S_ 1 :=
  let main_c : IVec S_ 32 := constantI S_ 32 0#32
  let main_v0 : IVec S256 32 := broadcastInDim S256 ![] bcast_S_S256 main_c
  let main_v1 : IVec S256 1 := cmpi .sge main_arg2 main_v0
  let main_c_0 : IVec S_ 32 := constantI S_ 32 16384#32
  let main_v2 : IVec S256 32 := broadcastInDim S256 ![] bcast_S_S256 main_c_0
  let main_v3 : IVec S256 1 := cmpi .slt main_arg2 main_v2
  let main_v4 : IVec S256 1 := andi main_v1 main_v3
  let main_c_1 : IVec S_ 1 := constantI S_ 1 1#1
  let main_v5 : IVec S_ 1 := (fun x v => Host.reduce IntOp.andi x v reducesTo_S256_S_d0 h_S_) main_v4 main_c_1
  main_v5
-- ==== Pre_labels_in_range_ReferenceIdeal.lean ====
abbrev S256x512 : Shape := ⟨2, ![256, 512]⟩
abbrev S512x16384 : Shape := ⟨2, ![512, 16384]⟩
abbrev S256 : Shape := ⟨1, ![256]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel

variable [Facts]

def fn {F : FTy → Type} [FloatOps F] (main_arg0 : FVec F S256x512 .f32) (main_arg1 : FVec F S512x16384 .f32) (main_arg2 : IVec S256 32) : IVec S_ 1 :=
  let main_c : IVec S_ 32 := constantI S_ 32 0#32
  let main_v0 : IVec S256 32 := broadcastInDim S256 ![] bcast_S_S256 main_c
  let main_v1 : IVec S256 1 := cmpi .sge main_arg2 main_v0
  let main_c_0 : IVec S_ 32 := constantI S_ 32 16384#32
  let main_v2 : IVec S256 32 := broadcastInDim S256 ![] bcast_S_S256 main_c_0
  let main_v3 : IVec S256 1 := cmpi .slt main_arg2 main_v2
  let main_v4 : IVec S256 1 := andi main_v1 main_v3
  let main_c_1 : IVec S_ 1 := constantI S_ 1 1#1
  let main_v5 : IVec S_ 1 := (fun x v => Host.reduce IntOp.andi x v reducesTo_S256_S_d0 h_S_) main_v4 main_c_1
  main_v5
-- ==== Kernel.lean ====
abbrev S256x512 : Shape := ⟨2, ![256, 512]⟩
abbrev S512x4096 : Shape := ⟨2, ![512, 4096]⟩
abbrev S256 : Shape := ⟨1, ![256]⟩
abbrev S512x2048 : Shape := ⟨2, ![512, 2048]⟩
abbrev S8x3x256 : Shape := ⟨3, ![8, 3, 256]⟩
abbrev S7 : Shape := ⟨1, ![7]⟩
abbrev S8 : Shape := ⟨1, ![8]⟩
abbrev S4 : Shape := ⟨1, ![4]⟩
abbrev S1 : Shape := ⟨1, ![1]⟩
abbrev S_ : Shape := ⟨0, ![]⟩
abbrev S256x2048 : Shape := ⟨2, ![256, 2048]⟩
abbrev S256x1 : Shape := ⟨2, ![256, 1]⟩
abbrev S1x1x256 : Shape := ⟨3, ![1, 1, 256]⟩
abbrev S1x3x256 : Shape := ⟨3, ![1, 3, 256]⟩
abbrev S3x256 : Shape := ⟨2, ![3, 256]⟩
abbrev S8x1x256 : Shape := ⟨3, ![8, 1, 256]⟩
abbrev S8x256 : Shape := ⟨2, ![8, 256]⟩
abbrev S1x256 : Shape := ⟨2, ![1, 256]⟩

abbrev nBuf : Space → Nat
  | .hbm => 4
  | .vmem => 5
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S256, .i32⟩
  | .hbm, ⟨3, _⟩ => ⟨S256, .f32⟩
  | .local _ .vmem, ⟨0, _⟩ => ⟨S256x512, .f32⟩
  | .local _ .vmem, ⟨1, _⟩ => ⟨S512x2048, .f32⟩
  | .local _ .vmem, ⟨2, _⟩ => ⟨S256, .i32⟩
  | .local _ .vmem, ⟨3, _⟩ => ⟨S256, .f32⟩
  | .local _ .vmem, ⟨4, _⟩ => ⟨S8x3x256, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let c0_i32_5 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_3 : BitVec 32 := 2048#32
  let v16 : BitVec 32 := Scalar.muli v2 c2048_i32_3
  ![0, v16.toNat]
def k0_dev1 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_6 : BitVec 32 := 0#32
  let v21 : BitVec 32 := Scalar.addi v2 c0_i32_6
  let c2_i32_7 : BitVec 32 := 2#32
  let c0_i32_8 : BitVec 32 := 0#32
  let v22 : BitVec 1 := Scalar.cmpi .eq c2_i32_7 c0_i32_8
  let c1_i32_9 : BitVec 32 := 1#32
  let v23 : BitVec 32 := Scalar.select v22 c1_i32_9 c2_i32_7
  let v24 : BitVec 32 := Scalar.remsi v21 v23
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let c0_i32_10 : BitVec 32 := 0#32
  let v25 : BitVec 1 := Scalar.cmpi .ne v24 c0_i32_10
  let v29 : BitVec 1 := Scalar.andi v28 v25
  let v30 : BitVec 32 := Scalar.addi v24 v23
  let v31 : BitVec 32 := Scalar.select v29 v30 v24
  let c16_i32_21 : BitVec 32 := 16#32
  let v43 : BitVec 32 := Scalar.muli v31 c16_i32_21
  let v44 : BitVec 32 := Scalar.addi c0_i32_22 v43
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_13 : BitVec 32 := 1#32
  let v32 : BitVec 32 := Scalar.addi v5 c1_i32_13
  let c4_i32_14 : BitVec 32 := 4#32
  let c0_i32_15 : BitVec 32 := 0#32
  let v33 : BitVec 1 := Scalar.cmpi .eq c4_i32_14 c0_i32_15
  let c1_i32_16 : BitVec 32 := 1#32
  let v34 : BitVec 32 := Scalar.select v33 c1_i32_16 c4_i32_14
  let v35 : BitVec 32 := Scalar.remsi v32 v34
  let c0_i32_18 : BitVec 32 := 0#32
  let v37 : BitVec 1 := Scalar.cmpi .slt v35 c0_i32_18
  let c0_i32_19 : BitVec 32 := 0#32
  let v38 : BitVec 1 := Scalar.cmpi .slt v34 c0_i32_19
  let v39 : BitVec 1 := Scalar.xori v37 v38
  let c0_i32_17 : BitVec 32 := 0#32
  let v36 : BitVec 1 := Scalar.cmpi .ne v35 c0_i32_17
  let v40 : BitVec 1 := Scalar.andi v39 v36
  let v41 : BitVec 32 := Scalar.addi v35 v34
  let v42 : BitVec 32 := Scalar.select v40 v41 v35
  let c4_i32_23 : BitVec 32 := 4#32
  let v45 : BitVec 32 := Scalar.muli v42 c4_i32_23
  let v46 : BitVec 32 := Scalar.addi v44 v45
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v47 : BitVec 32 := Scalar.muli v8 c1_i32_24
  let v48 : BitVec 32 := Scalar.addi v46 v47
  v48.toNat
def k0_dev2 (d0 : Dev nD) : Nat :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_25 : BitVec 32 := 0#32
  let v49 : BitVec 32 := Scalar.addi v2 c0_i32_25
  let c2_i32_26 : BitVec 32 := 2#32
  let c0_i32_27 : BitVec 32 := 0#32
  let v50 : BitVec 1 := Scalar.cmpi .eq c2_i32_26 c0_i32_27
  let c1_i32_28 : BitVec 32 := 1#32
  let v51 : BitVec 32 := Scalar.select v50 c1_i32_28 c2_i32_26
  let v52 : BitVec 32 := Scalar.remsi v49 v51
  let c0_i32_30 : BitVec 32 := 0#32
  let v54 : BitVec 1 := Scalar.cmpi .slt v52 c0_i32_30
  let c0_i32_31 : BitVec 32 := 0#32
  let v55 : BitVec 1 := Scalar.cmpi .slt v51 c0_i32_31
  let v56 : BitVec 1 := Scalar.xori v54 v55
  let c0_i32_29 : BitVec 32 := 0#32
  let v53 : BitVec 1 := Scalar.cmpi .ne v52 c0_i32_29
  let v57 : BitVec 1 := Scalar.andi v56 v53
  let v58 : BitVec 32 := Scalar.addi v52 v51
  let v59 : BitVec 32 := Scalar.select v57 v58 v52
  let c16_i32_40 : BitVec 32 := 16#32
  let v71 : BitVec 32 := Scalar.muli v59 c16_i32_40
  let v72 : BitVec 32 := Scalar.addi c0_i32_41 v71
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_32 : BitVec 32 := 2#32
  let v60 : BitVec 32 := Scalar.addi v5 c2_i32_32
  let c4_i32_33 : BitVec 32 := 4#32
  let c0_i32_34 : BitVec 32 := 0#32
  let v61 : BitVec 1 := Scalar.cmpi .eq c4_i32_33 c0_i32_34
  let c1_i32_35 : BitVec 32 := 1#32
  let v62 : BitVec 32 := Scalar.select v61 c1_i32_35 c4_i32_33
  let v63 : BitVec 32 := Scalar.remsi v60 v62
  let c0_i32_37 : BitVec 32 := 0#32
  let v65 : BitVec 1 := Scalar.cmpi .slt v63 c0_i32_37
  let c0_i32_38 : BitVec 32 := 0#32
  let v66 : BitVec 1 := Scalar.cmpi .slt v62 c0_i32_38
  let v67 : BitVec 1 := Scalar.xori v65 v66
  let c0_i32_36 : BitVec 32 := 0#32
  let v64 : BitVec 1 := Scalar.cmpi .ne v63 c0_i32_36
  let v68 : BitVec 1 := Scalar.andi v67 v64
  let v69 : BitVec 32 := Scalar.addi v63 v62
  let v70 : BitVec 32 := Scalar.select v68 v69 v63
  let c4_i32_42 : BitVec 32 := 4#32
  let v73 : BitVec 32 := Scalar.muli v70 c4_i32_42
  let v74 : BitVec 32 := Scalar.addi v72 v73
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v75 : BitVec 32 := Scalar.muli v8 c1_i32_43
  let v76 : BitVec 32 := Scalar.addi v74 v75
  v76.toNat
def k0_dev3 (d0 : Dev nD) : Nat :=
  let c0_i32_59 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_44 : BitVec 32 := 0#32
  let v77 : BitVec 32 := Scalar.addi v2 c0_i32_44
  let c2_i32_45 : BitVec 32 := 2#32
  let c0_i32_46 : BitVec 32 := 0#32
  let v78 : BitVec 1 := Scalar.cmpi .eq c2_i32_45 c0_i32_46
  let c1_i32_47 : BitVec 32 := 1#32
  let v79 : BitVec 32 := Scalar.select v78 c1_i32_47 c2_i32_45
  let v80 : BitVec 32 := Scalar.remsi v77 v79
  let c0_i32_49 : BitVec 32 := 0#32
  let v82 : BitVec 1 := Scalar.cmpi .slt v80 c0_i32_49
  let c0_i32_50 : BitVec 32 := 0#32
  let v83 : BitVec 1 := Scalar.cmpi .slt v79 c0_i32_50
  let v84 : BitVec 1 := Scalar.xori v82 v83
  let c0_i32_48 : BitVec 32 := 0#32
  let v81 : BitVec 1 := Scalar.cmpi .ne v80 c0_i32_48
  let v85 : BitVec 1 := Scalar.andi v84 v81
  let v86 : BitVec 32 := Scalar.addi v80 v79
  let v87 : BitVec 32 := Scalar.select v85 v86 v80
  let c16_i32_58 : BitVec 32 := 16#32
  let v99 : BitVec 32 := Scalar.muli v87 c16_i32_58
  let v100 : BitVec 32 := Scalar.addi c0_i32_59 v99
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v88 : BitVec 32 := Scalar.addi v5 c3_i32
  let c4_i32_51 : BitVec 32 := 4#32
  let c0_i32_52 : BitVec 32 := 0#32
  let v89 : BitVec 1 := Scalar.cmpi .eq c4_i32_51 c0_i32_52
  let c1_i32_53 : BitVec 32 := 1#32
  let v90 : BitVec 32 := Scalar.select v89 c1_i32_53 c4_i32_51
  let v91 : BitVec 32 := Scalar.remsi v88 v90
  let c0_i32_55 : BitVec 32 := 0#32
  let v93 : BitVec 1 := Scalar.cmpi .slt v91 c0_i32_55
  let c0_i32_56 : BitVec 32 := 0#32
  let v94 : BitVec 1 := Scalar.cmpi .slt v90 c0_i32_56
  let v95 : BitVec 1 := Scalar.xori v93 v94
  let c0_i32_54 : BitVec 32 := 0#32
  let v92 : BitVec 1 := Scalar.cmpi .ne v91 c0_i32_54
  let v96 : BitVec 1 := Scalar.andi v95 v92
  let v97 : BitVec 32 := Scalar.addi v91 v90
  let v98 : BitVec 32 := Scalar.select v96 v97 v91
  let c4_i32_60 : BitVec 32 := 4#32
  let v101 : BitVec 32 := Scalar.muli v98 c4_i32_60
  let v102 : BitVec 32 := Scalar.addi v100 v101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_61 : BitVec 32 := 1#32
  let v103 : BitVec 32 := Scalar.muli v8 c1_i32_61
  let v104 : BitVec 32 := Scalar.addi v102 v103
  v104.toNat
def k0_dev4 (d0 : Dev nD) : Nat :=
  let c0_i32_78 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_62 : BitVec 32 := 1#32
  let v105 : BitVec 32 := Scalar.addi v2 c1_i32_62
  let c2_i32_63 : BitVec 32 := 2#32
  let c0_i32_64 : BitVec 32 := 0#32
  let v106 : BitVec 1 := Scalar.cmpi .eq c2_i32_63 c0_i32_64
  let c1_i32_65 : BitVec 32 := 1#32
  let v107 : BitVec 32 := Scalar.select v106 c1_i32_65 c2_i32_63
  let v108 : BitVec 32 := Scalar.remsi v105 v107
  let c0_i32_67 : BitVec 32 := 0#32
  let v110 : BitVec 1 := Scalar.cmpi .slt v108 c0_i32_67
  let c0_i32_68 : BitVec 32 := 0#32
  let v111 : BitVec 1 := Scalar.cmpi .slt v107 c0_i32_68
  let v112 : BitVec 1 := Scalar.xori v110 v111
  let c0_i32_66 : BitVec 32 := 0#32
  let v109 : BitVec 1 := Scalar.cmpi .ne v108 c0_i32_66
  let v113 : BitVec 1 := Scalar.andi v112 v109
  let v114 : BitVec 32 := Scalar.addi v108 v107
  let v115 : BitVec 32 := Scalar.select v113 v114 v108
  let c16_i32_77 : BitVec 32 := 16#32
  let v127 : BitVec 32 := Scalar.muli v115 c16_i32_77
  let v128 : BitVec 32 := Scalar.addi c0_i32_78 v127
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_69 : BitVec 32 := 0#32
  let v116 : BitVec 32 := Scalar.addi v5 c0_i32_69
  let c4_i32_70 : BitVec 32 := 4#32
  let c0_i32_71 : BitVec 32 := 0#32
  let v117 : BitVec 1 := Scalar.cmpi .eq c4_i32_70 c0_i32_71
  let c1_i32_72 : BitVec 32 := 1#32
  let v118 : BitVec 32 := Scalar.select v117 c1_i32_72 c4_i32_70
  let v119 : BitVec 32 := Scalar.remsi v116 v118
  let c0_i32_74 : BitVec 32 := 0#32
  let v121 : BitVec 1 := Scalar.cmpi .slt v119 c0_i32_74
  let c0_i32_75 : BitVec 32 := 0#32
  let v122 : BitVec 1 := Scalar.cmpi .slt v118 c0_i32_75
  let v123 : BitVec 1 := Scalar.xori v121 v122
  let c0_i32_73 : BitVec 32 := 0#32
  let v120 : BitVec 1 := Scalar.cmpi .ne v119 c0_i32_73
  let v124 : BitVec 1 := Scalar.andi v123 v120
  let v125 : BitVec 32 := Scalar.addi v119 v118
  let v126 : BitVec 32 := Scalar.select v124 v125 v119
  let c4_i32_79 : BitVec 32 := 4#32
  let v129 : BitVec 32 := Scalar.muli v126 c4_i32_79
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_80 : BitVec 32 := 1#32
  let v131 : BitVec 32 := Scalar.muli v8 c1_i32_80
  let v132 : BitVec 32 := Scalar.addi v130 v131
  v132.toNat
def k0_dev5 (d0 : Dev nD) : Nat :=
  let c0_i32_97 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_81 : BitVec 32 := 1#32
  let v133 : BitVec 32 := Scalar.addi v2 c1_i32_81
  let c2_i32_82 : BitVec 32 := 2#32
  let c0_i32_83 : BitVec 32 := 0#32
  let v134 : BitVec 1 := Scalar.cmpi .eq c2_i32_82 c0_i32_83
  let c1_i32_84 : BitVec 32 := 1#32
  let v135 : BitVec 32 := Scalar.select v134 c1_i32_84 c2_i32_82
  let v136 : BitVec 32 := Scalar.remsi v133 v135
  let c0_i32_86 : BitVec 32 := 0#32
  let v138 : BitVec 1 := Scalar.cmpi .slt v136 c0_i32_86
  let c0_i32_87 : BitVec 32 := 0#32
  let v139 : BitVec 1 := Scalar.cmpi .slt v135 c0_i32_87
  let v140 : BitVec 1 := Scalar.xori v138 v139
  let c0_i32_85 : BitVec 32 := 0#32
  let v137 : BitVec 1 := Scalar.cmpi .ne v136 c0_i32_85
  let v141 : BitVec 1 := Scalar.andi v140 v137
  let v142 : BitVec 32 := Scalar.addi v136 v135
  let v143 : BitVec 32 := Scalar.select v141 v142 v136
  let c16_i32_96 : BitVec 32 := 16#32
  let v155 : BitVec 32 := Scalar.muli v143 c16_i32_96
  let v156 : BitVec 32 := Scalar.addi c0_i32_97 v155
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_88 : BitVec 32 := 1#32
  let v144 : BitVec 32 := Scalar.addi v5 c1_i32_88
  let c4_i32_89 : BitVec 32 := 4#32
  let c0_i32_90 : BitVec 32 := 0#32
  let v145 : BitVec 1 := Scalar.cmpi .eq c4_i32_89 c0_i32_90
  let c1_i32_91 : BitVec 32 := 1#32
  let v146 : BitVec 32 := Scalar.select v145 c1_i32_91 c4_i32_89
  let v147 : BitVec 32 := Scalar.remsi v144 v146
  let c0_i32_93 : BitVec 32 := 0#32
  let v149 : BitVec 1 := Scalar.cmpi .slt v147 c0_i32_93
  let c0_i32_94 : BitVec 32 := 0#32
  let v150 : BitVec 1 := Scalar.cmpi .slt v146 c0_i32_94
  let v151 : BitVec 1 := Scalar.xori v149 v150
  let c0_i32_92 : BitVec 32 := 0#32
  let v148 : BitVec 1 := Scalar.cmpi .ne v147 c0_i32_92
  let v152 : BitVec 1 := Scalar.andi v151 v148
  let v153 : BitVec 32 := Scalar.addi v147 v146
  let v154 : BitVec 32 := Scalar.select v152 v153 v147
  let c4_i32_98 : BitVec 32 := 4#32
  let v157 : BitVec 32 := Scalar.muli v154 c4_i32_98
  let v158 : BitVec 32 := Scalar.addi v156 v157
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v159 : BitVec 32 := Scalar.muli v8 c1_i32_99
  let v160 : BitVec 32 := Scalar.addi v158 v159
  v160.toNat
def k0_dev6 (d0 : Dev nD) : Nat :=
  let c0_i32_116 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_100 : BitVec 32 := 1#32
  let v161 : BitVec 32 := Scalar.addi v2 c1_i32_100
  let c2_i32_101 : BitVec 32 := 2#32
  let c0_i32_102 : BitVec 32 := 0#32
  let v162 : BitVec 1 := Scalar.cmpi .eq c2_i32_101 c0_i32_102
  let c1_i32_103 : BitVec 32 := 1#32
  let v163 : BitVec 32 := Scalar.select v162 c1_i32_103 c2_i32_101
  let v164 : BitVec 32 := Scalar.remsi v161 v163
  let c0_i32_105 : BitVec 32 := 0#32
  let v166 : BitVec 1 := Scalar.cmpi .slt v164 c0_i32_105
  let c0_i32_106 : BitVec 32 := 0#32
  let v167 : BitVec 1 := Scalar.cmpi .slt v163 c0_i32_106
  let v168 : BitVec 1 := Scalar.xori v166 v167
  let c0_i32_104 : BitVec 32 := 0#32
  let v165 : BitVec 1 := Scalar.cmpi .ne v164 c0_i32_104
  let v169 : BitVec 1 := Scalar.andi v168 v165
  let v170 : BitVec 32 := Scalar.addi v164 v163
  let v171 : BitVec 32 := Scalar.select v169 v170 v164
  let c16_i32_115 : BitVec 32 := 16#32
  let v183 : BitVec 32 := Scalar.muli v171 c16_i32_115
  let v184 : BitVec 32 := Scalar.addi c0_i32_116 v183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_107 : BitVec 32 := 2#32
  let v172 : BitVec 32 := Scalar.addi v5 c2_i32_107
  let c4_i32_108 : BitVec 32 := 4#32
  let c0_i32_109 : BitVec 32 := 0#32
  let v173 : BitVec 1 := Scalar.cmpi .eq c4_i32_108 c0_i32_109
  let c1_i32_110 : BitVec 32 := 1#32
  let v174 : BitVec 32 := Scalar.select v173 c1_i32_110 c4_i32_108
  let v175 : BitVec 32 := Scalar.remsi v172 v174
  let c0_i32_112 : BitVec 32 := 0#32
  let v177 : BitVec 1 := Scalar.cmpi .slt v175 c0_i32_112
  let c0_i32_113 : BitVec 32 := 0#32
  let v178 : BitVec 1 := Scalar.cmpi .slt v174 c0_i32_113
  let v179 : BitVec 1 := Scalar.xori v177 v178
  let c0_i32_111 : BitVec 32 := 0#32
  let v176 : BitVec 1 := Scalar.cmpi .ne v175 c0_i32_111
  let v180 : BitVec 1 := Scalar.andi v179 v176
  let v181 : BitVec 32 := Scalar.addi v175 v174
  let v182 : BitVec 32 := Scalar.select v180 v181 v175
  let c4_i32_117 : BitVec 32 := 4#32
  let v185 : BitVec 32 := Scalar.muli v182 c4_i32_117
  let v186 : BitVec 32 := Scalar.addi v184 v185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_118 : BitVec 32 := 1#32
  let v187 : BitVec 32 := Scalar.muli v8 c1_i32_118
  let v188 : BitVec 32 := Scalar.addi v186 v187
  v188.toNat
def k0_dev7 (d0 : Dev nD) : Nat :=
  let c0_i32_135 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_119 : BitVec 32 := 1#32
  let v189 : BitVec 32 := Scalar.addi v2 c1_i32_119
  let c2_i32_120 : BitVec 32 := 2#32
  let c0_i32_121 : BitVec 32 := 0#32
  let v190 : BitVec 1 := Scalar.cmpi .eq c2_i32_120 c0_i32_121
  let c1_i32_122 : BitVec 32 := 1#32
  let v191 : BitVec 32 := Scalar.select v190 c1_i32_122 c2_i32_120
  let v192 : BitVec 32 := Scalar.remsi v189 v191
  let c0_i32_124 : BitVec 32 := 0#32
  let v194 : BitVec 1 := Scalar.cmpi .slt v192 c0_i32_124
  let c0_i32_125 : BitVec 32 := 0#32
  let v195 : BitVec 1 := Scalar.cmpi .slt v191 c0_i32_125
  let v196 : BitVec 1 := Scalar.xori v194 v195
  let c0_i32_123 : BitVec 32 := 0#32
  let v193 : BitVec 1 := Scalar.cmpi .ne v192 c0_i32_123
  let v197 : BitVec 1 := Scalar.andi v196 v193
  let v198 : BitVec 32 := Scalar.addi v192 v191
  let v199 : BitVec 32 := Scalar.select v197 v198 v192
  let c16_i32_134 : BitVec 32 := 16#32
  let v211 : BitVec 32 := Scalar.muli v199 c16_i32_134
  let v212 : BitVec 32 := Scalar.addi c0_i32_135 v211
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_126 : BitVec 32 := 3#32
  let v200 : BitVec 32 := Scalar.addi v5 c3_i32_126
  let c4_i32_127 : BitVec 32 := 4#32
  let c0_i32_128 : BitVec 32 := 0#32
  let v201 : BitVec 1 := Scalar.cmpi .eq c4_i32_127 c0_i32_128
  let c1_i32_129 : BitVec 32 := 1#32
  let v202 : BitVec 32 := Scalar.select v201 c1_i32_129 c4_i32_127
  let v203 : BitVec 32 := Scalar.remsi v200 v202
  let c0_i32_131 : BitVec 32 := 0#32
  let v205 : BitVec 1 := Scalar.cmpi .slt v203 c0_i32_131
  let c0_i32_132 : BitVec 32 := 0#32
  let v206 : BitVec 1 := Scalar.cmpi .slt v202 c0_i32_132
  let v207 : BitVec 1 := Scalar.xori v205 v206
  let c0_i32_130 : BitVec 32 := 0#32
  let v204 : BitVec 1 := Scalar.cmpi .ne v203 c0_i32_130
  let v208 : BitVec 1 := Scalar.andi v207 v204
  let v209 : BitVec 32 := Scalar.addi v203 v202
  let v210 : BitVec 32 := Scalar.select v208 v209 v203
  let c4_i32_136 : BitVec 32 := 4#32
  let v213 : BitVec 32 := Scalar.muli v210 c4_i32_136
  let v214 : BitVec 32 := Scalar.addi v212 v213
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_137 : BitVec 32 := 1#32
  let v215 : BitVec 32 := Scalar.muli v8 c1_i32_137
  let v216 : BitVec 32 := Scalar.addi v214 v215
  v216.toNat
def k0_dev8 (d0 : Dev nD) : Nat :=
  let c0_i32_176 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_157 : BitVec 32 := 0#32
  let v252 : BitVec 32 := Scalar.addi v2 c0_i32_157
  let c2_i32_158 : BitVec 32 := 2#32
  let c0_i32_159 : BitVec 32 := 0#32
  let v253 : BitVec 1 := Scalar.cmpi .eq c2_i32_158 c0_i32_159
  let c1_i32_160 : BitVec 32 := 1#32
  let v254 : BitVec 32 := Scalar.select v253 c1_i32_160 c2_i32_158
  let v255 : BitVec 32 := Scalar.remsi v252 v254
  let c0_i32_162 : BitVec 32 := 0#32
  let v257 : BitVec 1 := Scalar.cmpi .slt v255 c0_i32_162
  let c0_i32_163 : BitVec 32 := 0#32
  let v258 : BitVec 1 := Scalar.cmpi .slt v254 c0_i32_163
  let v259 : BitVec 1 := Scalar.xori v257 v258
  let c0_i32_161 : BitVec 32 := 0#32
  let v256 : BitVec 1 := Scalar.cmpi .ne v255 c0_i32_161
  let v260 : BitVec 1 := Scalar.andi v259 v256
  let v261 : BitVec 32 := Scalar.addi v255 v254
  let v262 : BitVec 32 := Scalar.select v260 v261 v255
  let c16_i32_175 : BitVec 32 := 16#32
  let v274 : BitVec 32 := Scalar.muli v262 c16_i32_175
  let v275 : BitVec 32 := Scalar.addi c0_i32_176 v274
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_164 : BitVec 32 := 1#32
  let v263 : BitVec 32 := Scalar.addi v5 c1_i32_164
  let c4_i32_165 : BitVec 32 := 4#32
  let c0_i32_166 : BitVec 32 := 0#32
  let v264 : BitVec 1 := Scalar.cmpi .eq c4_i32_165 c0_i32_166
  let c1_i32_167 : BitVec 32 := 1#32
  let v265 : BitVec 32 := Scalar.select v264 c1_i32_167 c4_i32_165
  let v266 : BitVec 32 := Scalar.remsi v263 v265
  let c0_i32_169 : BitVec 32 := 0#32
  let v268 : BitVec 1 := Scalar.cmpi .slt v266 c0_i32_169
  let c0_i32_170 : BitVec 32 := 0#32
  let v269 : BitVec 1 := Scalar.cmpi .slt v265 c0_i32_170
  let v270 : BitVec 1 := Scalar.xori v268 v269
  let c0_i32_168 : BitVec 32 := 0#32
  let v267 : BitVec 1 := Scalar.cmpi .ne v266 c0_i32_168
  let v271 : BitVec 1 := Scalar.andi v270 v267
  let v272 : BitVec 32 := Scalar.addi v266 v265
  let v273 : BitVec 32 := Scalar.select v271 v272 v266
  let c4_i32_177 : BitVec 32 := 4#32
  let v276 : BitVec 32 := Scalar.muli v273 c4_i32_177
  let v277 : BitVec 32 := Scalar.addi v275 v276
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_178 : BitVec 32 := 1#32
  let v278 : BitVec 32 := Scalar.muli v8 c1_i32_178
  let v279 : BitVec 32 := Scalar.addi v277 v278
  v279.toNat
def k0_dev9 (d0 : Dev nD) : Nat :=
  let c0_i32_202 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_183 : BitVec 32 := 0#32
  let v288 : BitVec 32 := Scalar.addi v2 c0_i32_183
  let c2_i32_184 : BitVec 32 := 2#32
  let c0_i32_185 : BitVec 32 := 0#32
  let v289 : BitVec 1 := Scalar.cmpi .eq c2_i32_184 c0_i32_185
  let c1_i32_186 : BitVec 32 := 1#32
  let v290 : BitVec 32 := Scalar.select v289 c1_i32_186 c2_i32_184
  let v291 : BitVec 32 := Scalar.remsi v288 v290
  let c0_i32_188 : BitVec 32 := 0#32
  let v293 : BitVec 1 := Scalar.cmpi .slt v291 c0_i32_188
  let c0_i32_189 : BitVec 32 := 0#32
  let v294 : BitVec 1 := Scalar.cmpi .slt v290 c0_i32_189
  let v295 : BitVec 1 := Scalar.xori v293 v294
  let c0_i32_187 : BitVec 32 := 0#32
  let v292 : BitVec 1 := Scalar.cmpi .ne v291 c0_i32_187
  let v296 : BitVec 1 := Scalar.andi v295 v292
  let v297 : BitVec 32 := Scalar.addi v291 v290
  let v298 : BitVec 32 := Scalar.select v296 v297 v291
  let c16_i32_201 : BitVec 32 := 16#32
  let v310 : BitVec 32 := Scalar.muli v298 c16_i32_201
  let v311 : BitVec 32 := Scalar.addi c0_i32_202 v310
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_190 : BitVec 32 := 2#32
  let v299 : BitVec 32 := Scalar.addi v5 c2_i32_190
  let c4_i32_191 : BitVec 32 := 4#32
  let c0_i32_192 : BitVec 32 := 0#32
  let v300 : BitVec 1 := Scalar.cmpi .eq c4_i32_191 c0_i32_192
  let c1_i32_193 : BitVec 32 := 1#32
  let v301 : BitVec 32 := Scalar.select v300 c1_i32_193 c4_i32_191
  let v302 : BitVec 32 := Scalar.remsi v299 v301
  let c0_i32_195 : BitVec 32 := 0#32
  let v304 : BitVec 1 := Scalar.cmpi .slt v302 c0_i32_195
  let c0_i32_196 : BitVec 32 := 0#32
  let v305 : BitVec 1 := Scalar.cmpi .slt v301 c0_i32_196
  let v306 : BitVec 1 := Scalar.xori v304 v305
  let c0_i32_194 : BitVec 32 := 0#32
  let v303 : BitVec 1 := Scalar.cmpi .ne v302 c0_i32_194
  let v307 : BitVec 1 := Scalar.andi v306 v303
  let v308 : BitVec 32 := Scalar.addi v302 v301
  let v309 : BitVec 32 := Scalar.select v307 v308 v302
  let c4_i32_203 : BitVec 32 := 4#32
  let v312 : BitVec 32 := Scalar.muli v309 c4_i32_203
  let v313 : BitVec 32 := Scalar.addi v311 v312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_204 : BitVec 32 := 1#32
  let v314 : BitVec 32 := Scalar.muli v8 c1_i32_204
  let v315 : BitVec 32 := Scalar.addi v313 v314
  v315.toNat
def k0_dev10 (d0 : Dev nD) : Nat :=
  let c0_i32_228 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_209 : BitVec 32 := 0#32
  let v324 : BitVec 32 := Scalar.addi v2 c0_i32_209
  let c2_i32_210 : BitVec 32 := 2#32
  let c0_i32_211 : BitVec 32 := 0#32
  let v325 : BitVec 1 := Scalar.cmpi .eq c2_i32_210 c0_i32_211
  let c1_i32_212 : BitVec 32 := 1#32
  let v326 : BitVec 32 := Scalar.select v325 c1_i32_212 c2_i32_210
  let v327 : BitVec 32 := Scalar.remsi v324 v326
  let c0_i32_214 : BitVec 32 := 0#32
  let v329 : BitVec 1 := Scalar.cmpi .slt v327 c0_i32_214
  let c0_i32_215 : BitVec 32 := 0#32
  let v330 : BitVec 1 := Scalar.cmpi .slt v326 c0_i32_215
  let v331 : BitVec 1 := Scalar.xori v329 v330
  let c0_i32_213 : BitVec 32 := 0#32
  let v328 : BitVec 1 := Scalar.cmpi .ne v327 c0_i32_213
  let v332 : BitVec 1 := Scalar.andi v331 v328
  let v333 : BitVec 32 := Scalar.addi v327 v326
  let v334 : BitVec 32 := Scalar.select v332 v333 v327
  let c16_i32_227 : BitVec 32 := 16#32
  let v346 : BitVec 32 := Scalar.muli v334 c16_i32_227
  let v347 : BitVec 32 := Scalar.addi c0_i32_228 v346
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_216 : BitVec 32 := 3#32
  let v335 : BitVec 32 := Scalar.addi v5 c3_i32_216
  let c4_i32_217 : BitVec 32 := 4#32
  let c0_i32_218 : BitVec 32 := 0#32
  let v336 : BitVec 1 := Scalar.cmpi .eq c4_i32_217 c0_i32_218
  let c1_i32_219 : BitVec 32 := 1#32
  let v337 : BitVec 32 := Scalar.select v336 c1_i32_219 c4_i32_217
  let v338 : BitVec 32 := Scalar.remsi v335 v337
  let c0_i32_221 : BitVec 32 := 0#32
  let v340 : BitVec 1 := Scalar.cmpi .slt v338 c0_i32_221
  let c0_i32_222 : BitVec 32 := 0#32
  let v341 : BitVec 1 := Scalar.cmpi .slt v337 c0_i32_222
  let v342 : BitVec 1 := Scalar.xori v340 v341
  let c0_i32_220 : BitVec 32 := 0#32
  let v339 : BitVec 1 := Scalar.cmpi .ne v338 c0_i32_220
  let v343 : BitVec 1 := Scalar.andi v342 v339
  let v344 : BitVec 32 := Scalar.addi v338 v337
  let v345 : BitVec 32 := Scalar.select v343 v344 v338
  let c4_i32_229 : BitVec 32 := 4#32
  let v348 : BitVec 32 := Scalar.muli v345 c4_i32_229
  let v349 : BitVec 32 := Scalar.addi v347 v348
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_230 : BitVec 32 := 1#32
  let v350 : BitVec 32 := Scalar.muli v8 c1_i32_230
  let v351 : BitVec 32 := Scalar.addi v349 v350
  v351.toNat
def k0_dev11 (d0 : Dev nD) : Nat :=
  let c0_i32_254 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_235 : BitVec 32 := 1#32
  let v360 : BitVec 32 := Scalar.addi v2 c1_i32_235
  let c2_i32_236 : BitVec 32 := 2#32
  let c0_i32_237 : BitVec 32 := 0#32
  let v361 : BitVec 1 := Scalar.cmpi .eq c2_i32_236 c0_i32_237
  let c1_i32_238 : BitVec 32 := 1#32
  let v362 : BitVec 32 := Scalar.select v361 c1_i32_238 c2_i32_236
  let v363 : BitVec 32 := Scalar.remsi v360 v362
  let c0_i32_240 : BitVec 32 := 0#32
  let v365 : BitVec 1 := Scalar.cmpi .slt v363 c0_i32_240
  let c0_i32_241 : BitVec 32 := 0#32
  let v366 : BitVec 1 := Scalar.cmpi .slt v362 c0_i32_241
  let v367 : BitVec 1 := Scalar.xori v365 v366
  let c0_i32_239 : BitVec 32 := 0#32
  let v364 : BitVec 1 := Scalar.cmpi .ne v363 c0_i32_239
  let v368 : BitVec 1 := Scalar.andi v367 v364
  let v369 : BitVec 32 := Scalar.addi v363 v362
  let v370 : BitVec 32 := Scalar.select v368 v369 v363
  let c16_i32_253 : BitVec 32 := 16#32
  let v382 : BitVec 32 := Scalar.muli v370 c16_i32_253
  let v383 : BitVec 32 := Scalar.addi c0_i32_254 v382
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_242 : BitVec 32 := 0#32
  let v371 : BitVec 32 := Scalar.addi v5 c0_i32_242
  let c4_i32_243 : BitVec 32 := 4#32
  let c0_i32_244 : BitVec 32 := 0#32
  let v372 : BitVec 1 := Scalar.cmpi .eq c4_i32_243 c0_i32_244
  let c1_i32_245 : BitVec 32 := 1#32
  let v373 : BitVec 32 := Scalar.select v372 c1_i32_245 c4_i32_243
  let v374 : BitVec 32 := Scalar.remsi v371 v373
  let c0_i32_247 : BitVec 32 := 0#32
  let v376 : BitVec 1 := Scalar.cmpi .slt v374 c0_i32_247
  let c0_i32_248 : BitVec 32 := 0#32
  let v377 : BitVec 1 := Scalar.cmpi .slt v373 c0_i32_248
  let v378 : BitVec 1 := Scalar.xori v376 v377
  let c0_i32_246 : BitVec 32 := 0#32
  let v375 : BitVec 1 := Scalar.cmpi .ne v374 c0_i32_246
  let v379 : BitVec 1 := Scalar.andi v378 v375
  let v380 : BitVec 32 := Scalar.addi v374 v373
  let v381 : BitVec 32 := Scalar.select v379 v380 v374
  let c4_i32_255 : BitVec 32 := 4#32
  let v384 : BitVec 32 := Scalar.muli v381 c4_i32_255
  let v385 : BitVec 32 := Scalar.addi v383 v384
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_256 : BitVec 32 := 1#32
  let v386 : BitVec 32 := Scalar.muli v8 c1_i32_256
  let v387 : BitVec 32 := Scalar.addi v385 v386
  v387.toNat
def k0_dev12 (d0 : Dev nD) : Nat :=
  let c0_i32_280 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_261 : BitVec 32 := 1#32
  let v396 : BitVec 32 := Scalar.addi v2 c1_i32_261
  let c2_i32_262 : BitVec 32 := 2#32
  let c0_i32_263 : BitVec 32 := 0#32
  let v397 : BitVec 1 := Scalar.cmpi .eq c2_i32_262 c0_i32_263
  let c1_i32_264 : BitVec 32 := 1#32
  let v398 : BitVec 32 := Scalar.select v397 c1_i32_264 c2_i32_262
  let v399 : BitVec 32 := Scalar.remsi v396 v398
  let c0_i32_266 : BitVec 32 := 0#32
  let v401 : BitVec 1 := Scalar.cmpi .slt v399 c0_i32_266
  let c0_i32_267 : BitVec 32 := 0#32
  let v402 : BitVec 1 := Scalar.cmpi .slt v398 c0_i32_267
  let v403 : BitVec 1 := Scalar.xori v401 v402
  let c0_i32_265 : BitVec 32 := 0#32
  let v400 : BitVec 1 := Scalar.cmpi .ne v399 c0_i32_265
  let v404 : BitVec 1 := Scalar.andi v403 v400
  let v405 : BitVec 32 := Scalar.addi v399 v398
  let v406 : BitVec 32 := Scalar.select v404 v405 v399
  let c16_i32_279 : BitVec 32 := 16#32
  let v418 : BitVec 32 := Scalar.muli v406 c16_i32_279
  let v419 : BitVec 32 := Scalar.addi c0_i32_280 v418
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_268 : BitVec 32 := 1#32
  let v407 : BitVec 32 := Scalar.addi v5 c1_i32_268
  let c4_i32_269 : BitVec 32 := 4#32
  let c0_i32_270 : BitVec 32 := 0#32
  let v408 : BitVec 1 := Scalar.cmpi .eq c4_i32_269 c0_i32_270
  let c1_i32_271 : BitVec 32 := 1#32
  let v409 : BitVec 32 := Scalar.select v408 c1_i32_271 c4_i32_269
  let v410 : BitVec 32 := Scalar.remsi v407 v409
  let c0_i32_273 : BitVec 32 := 0#32
  let v412 : BitVec 1 := Scalar.cmpi .slt v410 c0_i32_273
  let c0_i32_274 : BitVec 32 := 0#32
  let v413 : BitVec 1 := Scalar.cmpi .slt v409 c0_i32_274
  let v414 : BitVec 1 := Scalar.xori v412 v413
  let c0_i32_272 : BitVec 32 := 0#32
  let v411 : BitVec 1 := Scalar.cmpi .ne v410 c0_i32_272
  let v415 : BitVec 1 := Scalar.andi v414 v411
  let v416 : BitVec 32 := Scalar.addi v410 v409
  let v417 : BitVec 32 := Scalar.select v415 v416 v410
  let c4_i32_281 : BitVec 32 := 4#32
  let v420 : BitVec 32 := Scalar.muli v417 c4_i32_281
  let v421 : BitVec 32 := Scalar.addi v419 v420
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_282 : BitVec 32 := 1#32
  let v422 : BitVec 32 := Scalar.muli v8 c1_i32_282
  let v423 : BitVec 32 := Scalar.addi v421 v422
  v423.toNat
def k0_dev13 (d0 : Dev nD) : Nat :=
  let c0_i32_304 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_287 : BitVec 32 := 1#32
  let v432 : BitVec 32 := Scalar.addi v2 c1_i32_287
  let c2_i32_288 : BitVec 32 := 2#32
  let c0_i32_289 : BitVec 32 := 0#32
  let v433 : BitVec 1 := Scalar.cmpi .eq c2_i32_288 c0_i32_289
  let c1_i32_290 : BitVec 32 := 1#32
  let v434 : BitVec 32 := Scalar.select v433 c1_i32_290 c2_i32_288
  let v435 : BitVec 32 := Scalar.remsi v432 v434
  let c0_i32_292 : BitVec 32 := 0#32
  let v437 : BitVec 1 := Scalar.cmpi .slt v435 c0_i32_292
  let c0_i32_293 : BitVec 32 := 0#32
  let v438 : BitVec 1 := Scalar.cmpi .slt v434 c0_i32_293
  let v439 : BitVec 1 := Scalar.xori v437 v438
  let c0_i32_291 : BitVec 32 := 0#32
  let v436 : BitVec 1 := Scalar.cmpi .ne v435 c0_i32_291
  let v440 : BitVec 1 := Scalar.andi v439 v436
  let v441 : BitVec 32 := Scalar.addi v435 v434
  let v442 : BitVec 32 := Scalar.select v440 v441 v435
  let c16_i32_303 : BitVec 32 := 16#32
  let v454 : BitVec 32 := Scalar.muli v442 c16_i32_303
  let v455 : BitVec 32 := Scalar.addi c0_i32_304 v454
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_294 : BitVec 32 := 2#32
  let v443 : BitVec 32 := Scalar.addi v5 c2_i32_294
  let c4_i32_295 : BitVec 32 := 4#32
  let c0_i32_296 : BitVec 32 := 0#32
  let v444 : BitVec 1 := Scalar.cmpi .eq c4_i32_295 c0_i32_296
  let c1_i32_297 : BitVec 32 := 1#32
  let v445 : BitVec 32 := Scalar.select v444 c1_i32_297 c4_i32_295
  let v446 : BitVec 32 := Scalar.remsi v443 v445
  let c0_i32_299 : BitVec 32 := 0#32
  let v448 : BitVec 1 := Scalar.cmpi .slt v446 c0_i32_299
  let c0_i32_300 : BitVec 32 := 0#32
  let v449 : BitVec 1 := Scalar.cmpi .slt v445 c0_i32_300
  let v450 : BitVec 1 := Scalar.xori v448 v449
  let c0_i32_298 : BitVec 32 := 0#32
  let v447 : BitVec 1 := Scalar.cmpi .ne v446 c0_i32_298
  let v451 : BitVec 1 := Scalar.andi v450 v447
  let v452 : BitVec 32 := Scalar.addi v446 v445
  let v453 : BitVec 32 := Scalar.select v451 v452 v446
  let c4_i32_305 : BitVec 32 := 4#32
  let v456 : BitVec 32 := Scalar.muli v453 c4_i32_305
  let v457 : BitVec 32 := Scalar.addi v455 v456
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_306 : BitVec 32 := 1#32
  let v458 : BitVec 32 := Scalar.muli v8 c1_i32_306
  let v459 : BitVec 32 := Scalar.addi v457 v458
  v459.toNat
def k0_dev14 (d0 : Dev nD) : Nat :=
  let c0_i32_330 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_311 : BitVec 32 := 1#32
  let v468 : BitVec 32 := Scalar.addi v2 c1_i32_311
  let c2_i32_312 : BitVec 32 := 2#32
  let c0_i32_313 : BitVec 32 := 0#32
  let v469 : BitVec 1 := Scalar.cmpi .eq c2_i32_312 c0_i32_313
  let c1_i32_314 : BitVec 32 := 1#32
  let v470 : BitVec 32 := Scalar.select v469 c1_i32_314 c2_i32_312
  let v471 : BitVec 32 := Scalar.remsi v468 v470
  let c0_i32_316 : BitVec 32 := 0#32
  let v473 : BitVec 1 := Scalar.cmpi .slt v471 c0_i32_316
  let c0_i32_317 : BitVec 32 := 0#32
  let v474 : BitVec 1 := Scalar.cmpi .slt v470 c0_i32_317
  let v475 : BitVec 1 := Scalar.xori v473 v474
  let c0_i32_315 : BitVec 32 := 0#32
  let v472 : BitVec 1 := Scalar.cmpi .ne v471 c0_i32_315
  let v476 : BitVec 1 := Scalar.andi v475 v472
  let v477 : BitVec 32 := Scalar.addi v471 v470
  let v478 : BitVec 32 := Scalar.select v476 v477 v471
  let c16_i32_329 : BitVec 32 := 16#32
  let v490 : BitVec 32 := Scalar.muli v478 c16_i32_329
  let v491 : BitVec 32 := Scalar.addi c0_i32_330 v490
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_318 : BitVec 32 := 3#32
  let v479 : BitVec 32 := Scalar.addi v5 c3_i32_318
  let c4_i32_319 : BitVec 32 := 4#32
  let c0_i32_320 : BitVec 32 := 0#32
  let v480 : BitVec 1 := Scalar.cmpi .eq c4_i32_319 c0_i32_320
  let c1_i32_321 : BitVec 32 := 1#32
  let v481 : BitVec 32 := Scalar.select v480 c1_i32_321 c4_i32_319
  let v482 : BitVec 32 := Scalar.remsi v479 v481
  let c0_i32_323 : BitVec 32 := 0#32
  let v484 : BitVec 1 := Scalar.cmpi .slt v482 c0_i32_323
  let c0_i32_324 : BitVec 32 := 0#32
  let v485 : BitVec 1 := Scalar.cmpi .slt v481 c0_i32_324
  let v486 : BitVec 1 := Scalar.xori v484 v485
  let c0_i32_322 : BitVec 32 := 0#32
  let v483 : BitVec 1 := Scalar.cmpi .ne v482 c0_i32_322
  let v487 : BitVec 1 := Scalar.andi v486 v483
  let v488 : BitVec 32 := Scalar.addi v482 v481
  let v489 : BitVec 32 := Scalar.select v487 v488 v482
  let c4_i32_331 : BitVec 32 := 4#32
  let v492 : BitVec 32 := Scalar.muli v489 c4_i32_331
  let v493 : BitVec 32 := Scalar.addi v491 v492
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_332 : BitVec 32 := 1#32
  let v494 : BitVec 32 := Scalar.muli v8 c1_i32_332
  let v495 : BitVec 32 := Scalar.addi v493 v494
  v495.toNat
-- ==== ReferenceIdeal.lean ====
abbrev S256x512 : Shape := ⟨2, ![256, 512]⟩
abbrev S512x16384 : Shape := ⟨2, ![512, 16384]⟩
abbrev S256 : Shape := ⟨1, ![256]⟩
abbrev S256x16384 : Shape := ⟨2, ![256, 16384]⟩
abbrev S_ : Shape := ⟨0, ![]⟩
abbrev S256x1 : Shape := ⟨2, ![256, 1]⟩
abbrev S256x2 : Shape := ⟨2, ![256, 2]⟩

abbrev nBuf : Space → Nat
  | .hbm => 36
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x16384, .f32⟩
  | .hbm, ⟨2, _⟩ => ⟨S256, .i32⟩
  | .hbm, ⟨3, _⟩ => ⟨S256x16384, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S256x16384, .f32⟩
  | .hbm, ⟨8, _⟩ => ⟨S256x16384, .f32⟩
  | .hbm, ⟨9, _⟩ => ⟨S256x16384, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256, .f32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S_, .i32⟩
  | .hbm, ⟨21, _⟩ => ⟨S256, .i32⟩
  | .hbm, ⟨22, _⟩ => ⟨S256, .i32⟩
  | .hbm, ⟨23, _⟩ => ⟨S256, .i32⟩
  | .hbm, ⟨24, _⟩ => ⟨S_, .i32⟩
  | .hbm, ⟨25, _⟩ => ⟨S256, .i32⟩
  | .hbm, ⟨26, _⟩ => ⟨S256, .i1⟩
  | .hbm, ⟨27, _⟩ => ⟨S_, .i32⟩
  | .hbm, ⟨28, _⟩ => ⟨S256, .i32⟩
  | .hbm, ⟨29, _⟩ => ⟨S256, .i32⟩
  | .hbm, ⟨30, _⟩ => ⟨S256, .i32⟩
  | .hbm, ⟨31, _⟩ => ⟨S256x1, .i32⟩
  | .hbm, ⟨32, _⟩ => ⟨S256x1, .i32⟩
  | .hbm, ⟨33, _⟩ => ⟨S256x2, .i32⟩
  | .hbm, ⟨34, _⟩ => ⟨S256, .f32⟩
  | .hbm, ⟨35, _⟩ => ⟨S256, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Protocol.lean ====
/-
  The exchange of the kernel as a schedule of rounds: the seven peers of a device, the eight slots of its landing buffer,
  its barrier, send and receive cells, what each unit paid to a cell hands over, what a device owes at the start, and the
  levels by which every wait is allowed. For any float values.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.ValueIdxCore
public import Idealize.ShloMosaic.Lib.ValueLayout
public import Idealize.ShloMosaic.Lib.Ring
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3)
open Idealize.ShloMosaic.Transfers (shareTok shareDrop)

variable {F : FTy → Type} [FloatOps F]

/-! ## The resource algebra: the pipeline's rounds, the exchange's rounds (a duty per peer), the local copies' counters -/

abbrev UB : Type := URounds (GSem nD τ sig) (Fin 7)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR

instance ER_landsIn : (ER : Emb UB 𝕄).LandsIn (upEmb : UEmb _ 𝕄) := by unfold ER embR; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The peers -/

set_option backward.proofsInPublic true in
/-- The device of `c`'s group at offset `k = 4·dx + dy`: mesh coordinates `x + dx` and `y + dy` modulo the axes, the same `z`. -/
def mate (c : Dev nD) (k : Fin 8) : Dev nD :=
  ⟨16 * ((c.val / 16 + k.val / 4) % 2) + 4 * ((c.val / 4 + k.val) % 4) + c.val % 4, by
    show _ < 32; omega⟩

/-- Peer `j` of `c`: the device at offset `j + 1`. -/
abbrev peer (c : Dev nD) (j : Fin 7) : Dev nD := mate c j.succ

/-- The opposite of offset `j + 1`, as a peer number. -/
def opp : Fin 7 → Fin 7 := ![2, 1, 0, 3, 6, 5, 4]

theorem opp_opp (j : Fin 7) : opp (opp j) = j := by revert j; decide
theorem mate_zero (c : Dev nD) : mate c 0 = c := by revert c; decide +kernel
theorem peer_opp (c : Dev nD) (j : Fin 7) : peer (peer c j) (opp j) = c := by revert c j; decide +kernel
theorem opp_peer (c : Dev nD) (j : Fin 7) : peer (peer c (opp j)) j = c := by revert c j; decide +kernel

/-- Going to peer `j`, undone by going to the opposite one. -/
def around (j : Fin 7) : Dev nD ≃ Dev nD := ⟨fun c => peer c j, fun c => peer c (opp j), fun c => peer_opp c j, fun c => opp_peer c j⟩

/-- The devices the seven signals and the seven copies name, in program order. -/
theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 3 := by revert c; decide +kernel
theorem dev5_eq (c : Dev nD) : (⟨k0_dev5 c, k0_dev5_lt c⟩ : Dev nD) = peer c 4 := by revert c; decide +kernel
theorem dev6_eq (c : Dev nD) : (⟨k0_dev6 c, k0_dev6_lt c⟩ : Dev nD) = peer c 5 := by revert c; decide +kernel
theorem dev7_eq (c : Dev nD) : (⟨k0_dev7 c, k0_dev7_lt c⟩ : Dev nD) = peer c 6 := by revert c; decide +kernel
theorem dev8_eq (c : Dev nD) : (⟨k0_dev8 c, k0_dev8_lt c⟩ : Dev nD) = peer c 0 := by revert c; decide +kernel
theorem dev9_eq (c : Dev nD) : (⟨k0_dev9 c, k0_dev9_lt c⟩ : Dev nD) = peer c 1 := by revert c; decide +kernel
theorem dev10_eq (c : Dev nD) : (⟨k0_dev10 c, k0_dev10_lt c⟩ : Dev nD) = peer c 2 := by revert c; decide +kernel
theorem dev11_eq (c : Dev nD) : (⟨k0_dev11 c, k0_dev11_lt c⟩ : Dev nD) = peer c 3 := by revert c; decide +kernel
theorem dev12_eq (c : Dev nD) : (⟨k0_dev12 c, k0_dev12_lt c⟩ : Dev nD) = peer c 4 := by revert c; decide +kernel
theorem dev13_eq (c : Dev nD) : (⟨k0_dev13 c, k0_dev13_lt c⟩ : Dev nD) = peer c 5 := by revert c; decide +kernel
theorem dev14_eq (c : Dev nD) : (⟨k0_dev14 c, k0_dev14_lt c⟩ : Dev nD) = peer c 6 := by revert c; decide +kernel

/-! ## The landing buffer's slots -/

abbrev rM : Memref sig .tc .vmem S8x3x256 .f32 := Memref.whole cc0_scratch4

theorem slot_inb (k : Fin 8) : ∀ a, (![k.val, 0, 0] : Fin 3 → Nat) a + S1x3x256.size a ≤ S8x3x256.size a := by
  have := k.isLt; intro a; fin_cases a
  · show k.val + 1 ≤ 8; omega
  · show 0 + 3 ≤ 3; omega
  · show 0 + 256 ≤ 256; omega

/-- Slot `k` of the landing buffer, as the body slices and squeezes it. -/
abbrev slotM (k : Fin 8) : Memref sig .tc .vmem S3x256 .f32 :=
  (rM.slice (Rect.unit (s := S8x3x256) ![k.val, 0, 0] S1x3x256.size (slot_inb k)) (fun _ => rfl)).squeeze S3x256 squeezes_S1x3x256_S3x256

/-- The contents of the landing buffer of a device. -/
abbrev RBuf (F : FTy → Type) : Type := (cc0_scratch4 : Ref sig .tc).ty.Contents (Elt F)

/-- An element lies in slot `k` when its first coordinate is `k`. -/
theorem mem_slot {k : Fin 8} {i : S8x3x256.Idx} : i ∈ (slotM k).view.set ↔ (i 0 : Fin 8) = k := by
  rw [Memref.set_view_squeeze]
  show i ∈ ((View.whole cc0_scratch4).slice (Rect.unit (s := S8x3x256) ![k.val, 0, 0] S1x3x256.size (slot_inb k))).set ↔ _
  rw [View.set_slice_whole, Rect.mem_set_unit]
  constructor
  · intro h
    have h0 := h 0
    refine Fin.ext ?_
    have h1 : k.val ≤ (i 0).val := h0.1
    have h2 : (i 0).val < k.val + 1 := h0.2
    omega
  · rintro h a
    have h0 : (i 0).val = k.val := congrArg Fin.val h
    have h1 : (i 1).val < 3 := (i 1).isLt
    have h2 : (i 2).val < 256 := (i 2).isLt
    fin_cases a
    · exact ⟨h0.ge, by show (i 0).val < k.val + 1; omega⟩
    · exact ⟨Nat.zero_le _, by show (i 1).val < 0 + 3; omega⟩
    · exact ⟨Nat.zero_le _, by show (i 2).val < 0 + 256; omega⟩

/-- Where row `r`, lane `l` of slot `k` sits in the landing buffer. -/
theorem slot_emb (k : Fin 8) (r : Fin 3) (l : Fin 256) : (slotM k).view.emb (ix2 r l) = ix3 k r l := by
  show (Rect.unit (s := S8x3x256) ![k.val, 0, 0] S1x3x256.size (slot_inb k)).emb (Shape.reshapeEquiv _ (ix2 r l)) = _
  rw [ValueIdx.reshapeEquiv_ix2_1ab]
  funext a
  fin_cases a
  · exact Fin.ext (by show k.val + 1 * 0 = k.val; omega)
  · exact Fin.ext (by show 0 + 1 * r.val = r.val; omega)
  · exact Fin.ext (by show 0 + 1 * l.val = l.val; omega)

/-- Slot `k` of device `c`'s landing buffer at share `q`. -/
def slotPts (c : Dev nD) (k : Fin 8) (q : PosShare TreeShare) (f : RBuf F) : sProp 𝕄 :=
  (slotM k).view.loc (c : Thread nD τ) ↦[(slotM k).view.set]{q} f

omit [FloatOps F] in
instance slotPts_storable (c : Dev nD) (k q) (f) : BI.Storable (upEmb : UEmb _ 𝕄) (slotPts (F := F) c k q f) := by unfold slotPts; infer_instance

omit [FloatOps F] in
/-- Only the values on the slot matter. -/
theorem slotPts_congr (c : Dev nD) (k q) {f g : RBuf F} (h : ∀ (r : Fin 3) (l : Fin 256), f (ix3 k r l) = g (ix3 k r l)) :
    (slotPts c k q f : sProp 𝕄) = slotPts c k q g := by
  unfold slotPts
  refine pointsTo_congr fun i hi => ?_
  have hk : (i 0 : Fin 8) = k := mem_slot.mp hi
  have e : i = ix3 k (i 1) (i 2) := by rw [← hk]; exact ValueIdx.eq_ix3 i
  rw [e]; exact h _ _

omit [FloatOps F] in
/-- The landing buffer is its eight slots. -/
theorem slots_eq (c : Dev nD) (f : RBuf F) :
    (((c : Thread nD τ).loc cc0_scratch4) ↦{fullShare} f : sProp 𝕄) = bigSep Finset.univ fun k : Fin 8 => slotPts c k fullShare f := by
  unfold slotPts
  refine Ring.pointsTo_blocks (ℓ := (c : Thread nD τ).loc cc0_scratch4) (fun k : Fin 8 => (slotM k).view.set) ?_ ?_ f
  · intro a b hab
    refine Finset.disjoint_left.mpr fun i ha hb => hab ?_
    exact (mem_slot.mp ha).symm.trans (mem_slot.mp hb)
  · refine Finset.eq_univ_of_forall fun i => ?_
    exact Finset.mem_biUnion.mpr ⟨i 0, Finset.mem_univ _, mem_slot.mpr rfl⟩

/-! ## The cells -/

/-- The runtime's barrier semaphore; the send semaphore of peer `j`; the receive semaphore of the slot peer `j` fills; the
    semaphores of the local copies. -/
abbrev barS : Sem sig := (SemArray.scalar (sig.barrier 0 rfl) : Sems sig S_).sem
abbrev sendS (j : Fin 7) : DmaSem sig := (⟨j.val, by omega⟩ : Fin 19)
abbrev recvS (j : Fin 7) : DmaSem sig := (⟨8 + j.val, by omega⟩ : Fin 19)
abbrev copyS (i : Fin 4) : DmaSem sig := (⟨15 + i.val, by omega⟩ : Fin 19)
/-- The receive semaphore of slot 0, which nothing uses. -/
abbrev idleS : DmaSem sig := (7 : Fin 19)

abbrev barCell (c : Dev nD) : GSem nD τ sig := ((c : Thread nD τ), .reg barS)
abbrev sendCell (c : Dev nD) (j : Fin 7) : GSem nD τ sig := ((c : Thread nD τ), .dma (sendS j))
abbrev recvCell (c : Dev nD) (j : Fin 7) : GSem nD τ sig := ((c : Thread nD τ), .dma (recvS j))

/-- The kernel's own semaphores, in the order of the pool. -/
abbrev osem : Fin 19 → SemLoc sig := fun i => .dma i
/-- The cells of the exchange on one device: the barrier, the seven send cells, the seven receive cells. -/
def csem (i : Fin 15) : SemLoc sig :=
  if h0 : i.val = 0 then .reg barS else if h : i.val < 8 then .dma (sendS ⟨i.val - 1, by omega⟩) else .dma (recvS ⟨i.val - 8, by omega⟩)
abbrev kcell (ck : Dev nD × Fin 15) : GSem nD τ sig := ((ck.1 : Thread nD τ), csem ck.2)

/-- The number of peer `j`'s send cell, and of its receive cell, among the fifteen. -/
abbrev sendIx (j : Fin 7) : Fin 15 := ⟨j.val + 1, by omega⟩
abbrev recvIx (j : Fin 7) : Fin 15 := ⟨j.val + 8, by omega⟩
theorem csem_send (j : Fin 7) : csem (sendIx j) = .dma (sendS j) := by revert j; decide
theorem csem_recv (j : Fin 7) : csem (recvIx j) = .dma (recvS j) := by revert j; decide

/-- The credit of one slot's transfer. -/
abbrev N : ℕ := (slotM 0).view.dmaCredit
theorem N_pos : 0 < N := View.dmaCredit_pos _ (by decide)
theorem slot_credit (k : Fin 8) : (slotM k).view.dmaCredit = N := rfl

/-! ## The contents -/

/-- What device `c` computes on: `x` and the labels whole, its 2048 columns of `W`. -/
def xOf (c : Dev nD) : Vec F S256x512 .f32 := m ((c : Thread nD τ).loc main_arg0)
def lblOf (c : Dev nD) : Vec F S256 .i32 := m ((c : Thread nD τ).loc main_arg2)
abbrev wM (c : Dev nD) : Memref sig .tc .hbm S512x2048 .f32 :=
  (Memref.whole main_arg1).slice (Rect.unit (s := S512x4096) (k0_off1 c) S512x2048.size (k0_off1_inb c)) (fun _ => rfl)
def wOf (c : Dev nD) : Vec F S512x2048 .f32 := (wM c).view.read (Elt F) (m ((c : Thread nD τ).loc main_arg1))

/-- The first global column of device `c`'s slice, as the kernel computes it. -/
def baseOf (c : Dev nD) : BitVec 32 :=
  Scalar.addi (Scalar.muli (Scalar.remsi (Scalar.divsi (Dev.word c) 4#32) 4#32) 4096#32) (Scalar.muli (Scalar.remsi (Scalar.divsi (Dev.word c) 16#32) 2#32) 2048#32)

/-- The three rows device `c` shares: the row maximum, the sum of exponentials, the label's logit (0 if not its own). -/
def statOf (c : Dev nD) (r : Fin 3) : FVec F S256 .f32 :=
  match r with
  | 0 => k0_pay3 (xOf m c) (wOf m c)
  | 1 => k0_pay4 (xOf m c) (wOf m c)
  | 2 => k0_pay5 (baseOf c) (xOf m c) (wOf m c) (lblOf m c)

/-- The landing buffer of device `c` after the exchange: slot `k` holds the rows of the device at offset `k`. -/
def recvAll (c : Dev nD) : RBuf F := fun i => statOf m (mate c (i 0)) (i 1) (ix1 (i 2))

/-- What a copy of `c`'s slot 0 into its peer's slot leaves there is what the peer expects. -/
theorem landed_eq (c : Dev nD) (j : Fin 7) (fd : RBuf F) (r : Fin 3) (l : Fin 256) :
    (slotM (opp j).succ).view.write (Elt F) fd ((slotM 0).view.read (Elt F) (recvAll m c)) Finset.univ (ix3 (opp j).succ r l)
      = recvAll m (peer c j) (ix3 (opp j).succ r l) := by
  rw [← slot_emb (opp j).succ r l, View.write_emb_of_mem _ _ (Finset.mem_univ _), View.read_apply, slot_emb, slot_emb]
  show recvAll m c (ix3 0 r l) = recvAll m (peer c j) (ix3 (opp j).succ r l)
  unfold recvAll
  show statOf m (mate c 0) r (ix1 l) = statOf m (peer (peer c j) (opp j)) r (ix1 l)
  rw [mate_zero, peer_opp]

/-! ## The schedule -/

/-- What peer `j`'s signal hands `c`: the slot of that peer's landing buffer which `c` fills. -/
def barPay (c : Dev nD) (j : Fin 7) : sProp 𝕄 := iprop(∃ f, slotPts (peer c j) (opp j).succ fullShare f)
/-- What the copy from peer `j` hands `c`: its slot holding that peer's rows. -/
def recvPay (c : Dev nD) (j : Fin 7) : sProp 𝕄 := slotPts c j.succ fullShare (recvAll m c)
/-- What the end of the copy to peer `j` hands back: the share of slot 0 it read. -/
def sendPay (c : Dev nD) (j : Fin 7) : sProp 𝕄 := slotPts c 0 (shareTok fullShare 7 j) (recvAll m c)

/-- The duties of a cell: seven at the barrier, one at a send or receive cell, none at another. -/
def dutiesOf : SemLoc sig → Finset (Fin 7)
  | .reg _ => Finset.univ
  | .dma s => if s.val < 7 then {0} else if 8 ≤ s.val ∧ s.val < 15 then {0} else ∅

/-- What duty `d` of a cell of device `c` hands over. -/
def payOf (c : Dev nD) (d : Fin 7) : SemLoc sig → sProp 𝕄
  | .reg _ => barPay c d
  | .dma s => if h : s.val < 7 then sendPay m c ⟨s.val, h⟩ else if h : 8 ≤ s.val ∧ s.val < 15 then recvPay m c ⟨s.val - 8, by omega⟩ else iprop(emp)

/-- One round, round 0. -/
def sched : Rounds.Schedule (GSem nD τ sig) (Fin 7) 𝕄 where
  duties g r := if r = 0 ∧ g.1.2 = .tc then dutiesOf g.2 else ∅
  unitless _ := False
  amount g _ _ := match g.2 with | .reg _ => 1 | .dma _ => N
  payload g _ d := payOf m g.1.1 d g.2
  amount_pos g _ _ _ := by
    cases g.2 with
    | reg _ => exact Nat.one_pos
    | dma _ => exact N_pos

instance sched_payload_storable (g : GSem nD τ sig) (r : ℕ) (d : Fin 7) :
    BI.Storable (upEmb : UEmb _ 𝕄) ((sched (F := F) m).payload g r d) := by
  show BI.Storable upEmb (payOf m g.1.1 d g.2)
  unfold payOf
  cases g.2 with
  | reg _ => unfold barPay; infer_instance
  | dma s => dsimp only; unfold sendPay recvPay; (repeat' split) <;> infer_instance

section Sched
variable (c : Dev nD) (j : Fin 7)

theorem duties_bar : (sched (F := F) m).duties (barCell c) 0 = Finset.univ := by dsimp only [sched]; exact if_pos ⟨rfl, rfl⟩
theorem duties_send : (sched (F := F) m).duties (sendCell c j) 0 = {0} := by
  dsimp only [sched]; rw [if_pos ⟨rfl, rfl⟩]; unfold dutiesOf; exact if_pos j.isLt
theorem duties_recv : (sched (F := F) m).duties (recvCell c j) 0 = {0} := by
  dsimp only [sched]; rw [if_pos ⟨rfl, rfl⟩]; unfold dutiesOf
  dsimp only; rw [if_neg (by omega), if_pos (by omega)]
theorem duties_later (g : GSem nD τ sig) : ∀ r, 1 ≤ r → (sched (F := F) m).duties g r = ∅ :=
  fun r hr => by dsimp only [sched]; rw [if_neg fun h => by omega]

theorem amount_bar (d : Fin 7) : (sched (F := F) m).amount (barCell c) 0 d = 1 := rfl
theorem amount_send (d : Fin 7) : (sched (F := F) m).amount (sendCell c j) 0 d = N := rfl
theorem amount_recv (d : Fin 7) : (sched (F := F) m).amount (recvCell c j) 0 d = N := rfl

theorem expect_bar : (sched (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell c j) 0 = N := by
  unfold Schedule.expect Schedule.amountOf; rw [duties_send, Finset.sum_singleton, amount_send]
theorem expect_recv : (sched (F := F) m).expect (recvCell c j) 0 = N := by
  unfold Schedule.expect Schedule.amountOf; rw [duties_recv, Finset.sum_singleton, amount_recv]

theorem payload_bar (d : Fin 7) : (sched (F := F) m).payload (barCell c) 0 d = barPay c d := rfl
theorem payload_send (d : Fin 7) : (sched (F := F) m).payload (sendCell c j) 0 d = sendPay m c j := by
  dsimp only [sched]; unfold payOf; dsimp only; rw [dif_pos j.isLt]
theorem payload_recv (d : Fin 7) : (sched (F := F) m).payload (recvCell c j) 0 d = recvPay m c j := by
  dsimp only [sched]; unfold payOf; dsimp only; rw [dif_neg (by omega), dif_pos (by omega)]
  congr 1; exact Fin.ext (by show 8 + j.val - 8 = j.val; omega)

/-- What a wait for a cell's whole round hands over. -/
theorem rest_bar : bigSep ((sched (F := F) m).duties (barCell c) 0 \ ∅) (fun d => (sched (F := F) m).payload (barCell c) 0 d)
    = bigSep Finset.univ fun j : Fin 7 => barPay c j := by
  rw [Finset.sdiff_empty, duties_bar]; rfl
theorem rest_send : bigSep ((sched (F := F) m).duties (sendCell c j) 0 \ ∅) (fun d => (sched (F := F) m).payload (sendCell c j) 0 d) = sendPay m c j := by
  rw [Finset.sdiff_empty, duties_send, bigSep_singleton, payload_send]
theorem rest_recv : bigSep ((sched (F := F) m).duties (recvCell c j) 0 \ ∅) (fun d => (sched (F := F) m).payload (recvCell c j) 0 d) = recvPay m c j := by
  rw [Finset.sdiff_empty, duties_recv, bigSep_singleton, payload_recv]

end Sched

/-! ## What a device owes; the levels -/

/-- The peer served when `i + 1` of the seven remain. -/
abbrev nth (i : ℕ) : Fin 7 := ⟨6 - i, by omega⟩

/-- What is owed when `i` of the seven copies remain; -/
def OS (c : Dev nD) : ℕ → CellTallies nD τ sig Unit
  | 0 => 0
  | i + 1 => OS c i + tallyAt (recvCell (peer c (nth i)) (opp (nth i))) () N
/-- and when all the copies and `i` of the seven signals remain. -/
def OB (c : Dev nD) : ℕ → CellTallies nD τ sig Unit
  | 0 => OS c 7
  | i + 1 => OB c i + tallyAt (barCell (peer c (nth i))) () 1

def L (g : GSem nD τ sig) : Finset Unit := if g.1.2 = .tc then {()} else ∅
/-- The barrier at 1, receive cells at 2, every other cell at 0. -/
def lvSem : SemLoc sig → ℕ
  | .reg _ => 1
  | .dma s => if 8 ≤ s.val ∧ s.val < 15 then 2 else 0
def lv (g : GSem nD τ sig) (_ : Unit) : ℕ := lvSem g.2

theorem L_of_ne (g : GSem nD τ sig) (h : g.1.2 ≠ .tc) : L g = ∅ := if_neg h
theorem L_tc (c : Dev nD) (sm : SemLoc sig) : L ((c : Thread nD τ), sm) = {()} := if_pos rfl
theorem lvSem_recv (j : Fin 7) : lvSem (.dma (recvS j)) = 2 := by revert j; decide

/-- What is owed for the copies sits on receive cells of TensorCores, at level 2. -/
theorem OS_pos {c : Dev nD} {i : ℕ} {g : GSem nD τ sig} {u : Unit} (h : 0 < OS c i g u) : g.1.2 = .tc ∧ lvSem g.2 = 2 := by
  induction i with
  | zero => exact absurd h (Nat.lt_irrefl 0)
  | succ i ih =>
    unfold OS at h
    rw [Pi.add_apply, Finsupp.add_apply, tallyAt_apply] at h
    by_cases hg : g = recvCell (peer c (nth i)) (opp (nth i)) ∧ u = ()
    · rw [hg.1]; exact ⟨rfl, lvSem_recv _⟩
    · rw [if_neg hg, Nat.add_zero] at h; exact ih h
/-- With the signals, on cells at level 1 or above. -/
theorem OB_pos {c : Dev nD} {i : ℕ} {g : GSem nD τ sig} {u : Unit} (h : 0 < OB c i g u) : g.1.2 = .tc ∧ 1 ≤ lvSem g.2 := by
  induction i with
  | zero => unfold OB at h; exact ⟨(OS_pos h).1, by rw [(OS_pos h).2]; decide⟩
  | succ i ih =>
    unfold OB at h
    rw [Pi.add_apply, Finsupp.add_apply, tallyAt_apply] at h
    by_cases hg : g = barCell (peer c (nth i)) ∧ u = ()
    · rw [hg.1]; exact ⟨rfl, le_refl _⟩
    · rw [if_neg hg, Nat.add_zero] at h; exact ih h

omit [FloatOps F] in
/-- A wait at level `b` is allowed while everything owed sits above. -/
theorem mayWait_below (c : Dev nD) (sm : SemLoc sig) (O : CellTallies nD τ sig Unit)
    (hO : ∀ g u, 0 < O g u → g.1.2 = .tc ∧ lvSem sm < lvSem g.2) :
    (levAts L lv : sProp 𝕄) ⊢ MayWait (c : Thread nD τ) sm () O :=
  MayOwe.of_cut (L := L) (lev := lv) (lvSem sm) (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact le_refl _)
    (fun g u hg => (hO g u hg).2)

omit [FloatOps F] in
/-- The barrier wait, the copies owed. -/
theorem mayWait_bar (c : Dev nD) : (levAts L lv : sProp 𝕄) ⊢ MayWait (c : Thread nD τ) (.reg barS) () (OS c 7) :=
  mayWait_below c _ _ fun g u h => ⟨(OS_pos h).1, by rw [(OS_pos h).2]; decide⟩
omit [FloatOps F] in
/-- The waits for the local copies in, the remote copies owed. -/
theorem mayWait_copy (c : Dev nD) (i : Fin 4) : (levAts L lv : sProp 𝕄) ⊢ MayWait (c : Thread nD τ) (.dma (copyS i)) () (OS c 7) :=
  mayWait_below c _ _ fun g u h => ⟨(OS_pos h).1, by
    rw [(OS_pos h).2]; unfold lvSem; dsimp only; rw [if_neg (by omega)]; decide⟩

end Cert.Exchange

end
-- ==== Proof.Steps.lean ====
/-
  One rule per effect of the exchange, for any peer `j`: the signal to a peer's barrier, the wait at one's own, the copy to
  a peer, the wait for its end, the wait for a peer's copy to land; and the rules of the local copies.
-/
module

public import proofs.«01_k».proof.Proof.Protocol

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What every device knows, and what a device holds for peer `j` -/

/-- Every cell's invariant, at the names `K`, and that every cell is at its round 0. -/
def records (K : Dev nD × Fin 15 → ℕ) : sProp 𝕄 :=
  iprop((bigSep Finset.univ fun ck : Dev nD × Fin 15 => cellInv ER (sched m) (K ck) (kcell ck))
    ∗ bigSep Finset.univ fun ck : Dev nD × Fin 15 => reached ER (kcell ck) 0)

instance records_persistent (K : Dev nD × Fin 15 → ℕ) : BI.Persistent (records m K) := by unfold records; infer_instance

theorem kcell_send (c : Dev nD) (j : Fin 7) : kcell (c, sendIx j) = sendCell c j := Prod.ext rfl (csem_send j)
theorem kcell_recv (c : Dev nD) (j : Fin 7) : kcell (c, recvIx j) = recvCell c j := Prod.ext rfl (csem_recv j)
theorem kcell_bar (c : Dev nD) : kcell (c, 0) = barCell c := rfl

/-- One cell's invariant and that it is at its round 0. -/
theorem record_at (K : Dev nD × Fin 15 → ℕ) (ck : Dev nD × Fin 15) :
    (records m K : sProp 𝕄) ⊢ iprop(cellInv ER (sched m) (K ck) (kcell ck) ∗ reached ER (kcell ck) 0) := by
  unfold records
  exact BI.sep_mono (bigSep_elim (Finset.mem_univ ck)) (bigSep_elim (Finset.mem_univ ck))

theorem record_send (K : Dev nD × Fin 15 → ℕ) (c : Dev nD) (j : Fin 7) :
    (records m K : sProp 𝕄) ⊢ iprop(cellInv ER (sched m) (K (c, sendIx j)) (sendCell c j) ∗ reached ER (sendCell c j) 0) := by
  rw [← kcell_send]; exact record_at m K (c, sendIx j)
theorem record_recv (K : Dev nD × Fin 15 → ℕ) (c : Dev nD) (j : Fin 7) :
    (records m K : sProp 𝕄) ⊢ iprop(cellInv ER (sched m) (K (c, recvIx j)) (recvCell c j) ∗ reached ER (recvCell c j) 0) := by
  rw [← kcell_recv]; exact record_at m K (c, recvIx j)
theorem record_bar (K : Dev nD × Fin 15 → ℕ) (c : Dev nD) :
    (records m K : sProp 𝕄) ⊢ iprop(cellInv ER (sched m) (K (c, 0)) (barCell c) ∗ reached ER (barCell c) 0) := record_at m K (c, 0)

/-- What a device owes, whatever waits it has recorded. -/
def owing (c : Dev nD) (O : CellTallies nD τ sig Unit) : sProp 𝕄 := iprop(∃ W, owes (c : Thread nD τ) O W)

/-- What the signal to peer `j` takes: the duty's token, and the slot that peer fills. -/
def sigRes (c : Dev nD) (j : Fin 7) : sProp 𝕄 :=
  iprop(dutyTok ER (barCell (peer c j)) 0 (opp j) ∗ ∃ f, slotPts c j.succ fullShare f)
/-- What the copy to peer `j` takes: the tokens of its two duties, the slot it fills, a share of slot 0. -/
def sndRes (c : Dev nD) (j : Fin 7) : sProp 𝕄 :=
  iprop((dutyTok ER (sendCell c j) 0 0 ∗ dutyTok ER (recvCell (peer c j) (opp j)) 0 0) ∗ barPay c j ∗ sendPay m c j)
/-- What the wait for the end of the copy to peer `j` takes, and what it gives. -/
def sndWait (c : Dev nD) (j : Fin 7) : sProp 𝕄 := iprop(cred (tallyAt (sendCell c j) () N) ∗ atPos ER (sendCell c j) 0 ∅ 0)
def sndDone (c : Dev nD) (j : Fin 7) : sProp 𝕄 := iprop(semVal (sendCell c j) 0 ∗ sendPay m c j)
/-- What the wait for the copy from peer `j` takes, and what it gives. -/
def rcvWait (c : Dev nD) (j : Fin 7) : sProp 𝕄 := iprop(cred (tallyAt (recvCell c j) () N) ∗ atPos ER (recvCell c j) 0 ∅ 0)
def rcvDone (c : Dev nD) (j : Fin 7) : sProp 𝕄 := iprop(semVal (recvCell c j) 0 ∗ recvPay m c j)

section Steps

variable (K : Dev nD × Fin 15 → ℕ)

/-- The signal to peer `j`. -/
theorem step_signal (c n : Dev nD) (j : Fin 7) (hn : n = peer c j) (k' : ℕ) (hk : 1 = k') (O : CellTallies nD τ sig Unit)
    {O₀ : CellTallies nD τ sig Unit} (hO : O₀ = O + tallyAt (barCell (peer c j)) () 1)
    {α : Type} {Q : α → sProp 𝕄} {k : PUnit → Prog (TpuEff nD τ sig (Elt F) Λ₀ .tc) α} :
    iprop(records m K ∗ owing c O₀ ∗ sigRes c j)
      ⊢ iprop((owing c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn hk
  unfold owing sigRes
  iintro ⟨#HR, ⟨%W, HO⟩, Ht, Hs⟩ Hk
  ihave Hr := (record_bar m K (peer c j)) $$ HR
  icases Hr with ⟨#HI, #Hr⟩
  iapply (Rounds.wp_signal 𝒱₀ ER (sched m) (c : Thread nD τ) none (dst := (peer c j : Thread nD τ)) (κ := K (peer c j, 0))
      (d := opp j) (by rw [duties_bar]; exact Finset.mem_univ _) (amount_bar m (peer c j) (opp j)) () O hO) $$ [HO Ht Hs]
  · isplitr; · iexact HI
    isplitl [HO]; · iexact HO
    isplitl [Ht]; · iexact Ht
    isplitl [Hs]
    · rw [payload_bar]; unfold barPay; rw [peer_opp, opp_opp]; iexact Hs
    iexact Hr
  iintro HO
  iapply Hk
  iexists W; iexact HO

/-- The wait at one's own barrier, the copies owed. -/
theorem step_waitBar (c : Dev nD) (n : ℕ) (hn : 7 = n)
    {α : Type} {Q : α → sProp 𝕄} {k : PUnit → Prog (TpuEff nD τ sig (Elt F) Λ₀ .tc) α} :
    iprop(records m K ∗ levAts L lv ∗ owing c (OS c 7) ∗ cred (tallyAt (barCell c) () 7) ∗ atPos ER (barCell c) 0 ∅ 0)
      ⊢ iprop(((owing c (OS c 7) ∗ semVal (barCell c) 0 ∗ bigSep Finset.univ fun j : Fin 7 => barPay c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS n) k) Q) := by
  subst hn
  unfold owing
  iintro ⟨#HR, #Hlev, ⟨%W, HO⟩, Hc, Hat⟩ Hk
  ihave Hr := (record_bar m K c) $$ HR
  icases Hr with ⟨#HI, -⟩
  iapply (Rounds.wp_wait_rest_token 𝒱₀ ER (sched m) (c : Thread nD τ) none (κ := K (c, 0))
      (wpE_semWait_eq 𝒱₀ (c : Thread nD τ) none Set.univ) (Set.mem_univ _) () (O := OS c 7) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  imod (Rounds.cell_close ER (sched m) (Set.mem_univ (K (c, 0))) (fun h => h) (R := 0 + 1) (duties_later m (barCell c))) $$ [Hat] with Hz
  · isplitr; · iexact HI
    iexact Hat
  iapply Hk
  isplitl [HO]; · iexists _; iexact HO
  isplitl [Hz] <;> iassumption

/-- The copy to peer `j`. -/
theorem step_send (c n : Dev nD) (j : Fin 7) (hn : n = peer c j) (S D : Memref sig .tc .vmem S3x256 .f32) (hS : S = slotM 0) (hD : D = slotM (opp j).succ)
    (sS rS : DmaSem sig) (hsS : sS = sendS j) (hrS : rS = recvS (opp j))
    {hsc : D.view.ref.isScScratch = false} {hsrc : S.view.WordExact} {hdst : D.view.WordExact}
    {hsem : DmaTarget.Typed .vmem (.dma rS) (.remote (Dev.tc n : Thread nD τ) D (.dma sS) hsc)}
    (O : CellTallies nD τ sig Unit) {O₀ : CellTallies nD τ sig Unit} (hO : O₀ = O + tallyAt (recvCell (peer c j) (opp j)) () N)
    {α : Type} {Q : α → sProp 𝕄} {k : PUnit → Prog (TpuEff nD τ sig (Elt F) Λ₀ .tc) α} :
    iprop(records m K ∗ owing c O₀ ∗ sndRes m c j)
      ⊢ iprop(((owing c O ∗ cred (tallyAt (sendCell c j) () N)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma S (.remote (Dev.tc n : Thread nD τ) D (.dma sS) hsc) (.dma rS) hsrc hdst hsem) k) Q) := by
  subst hn hS hD hsS hrS
  have hN : (slotM (opp j).succ).view.amount (.dma (recvS (opp j)) : SemLoc sig) = N := slot_credit _
  have hpay₁ : (slotPts c 0 (shareTok fullShare 7 j) (recvAll m c) : sProp 𝕄) ⊢ (sched m).payload (sendCell c j) 0 0 := by
    rw [payload_send]; exact BI.Entails.refl _
  have hpay₂ : ∀ fd, (slotPts (peer c j) (opp j).succ fullShare
      ((slotM (opp j).succ).view.write (Elt F) fd ((slotM 0).view.read (Elt F) (recvAll m c)) Finset.univ) : sProp 𝕄)
        ⊢ (sched m).payload (recvCell (peer c j) (opp j)) 0 0 := fun fd => by
    rw [payload_recv]
    exact Entails.of_eq (slotPts_congr (peer c j) (opp j).succ fullShare fun r l => landed_eq m c j fd r l)
  unfold owing sndRes barPay sendPay
  iintro ⟨#HR, ⟨%W, HO⟩, ⟨Ht1, Ht2⟩, ⟨%fd, Hd⟩, Hs⟩ Hk
  ihave Hr := (record_send m K c j) $$ HR
  icases Hr with ⟨#HI1, #Hr1⟩
  ihave Hr := (record_recv m K (peer c j) (opp j)) $$ HR
  icases Hr with ⟨#HI2, #Hr2⟩
  unfold slotPts at *
  iapply (Rounds.wp_send_pointsTo 𝒱₀ ER (sched m) (c : Thread nD τ) none (c' := (peer c j : Thread nD τ)) (src := slotM 0) (dst := slotM (opp j).succ)
    (sS := .dma (sendS j)) (sem := .dma (recvS (opp j))) (hsc := hsc) (hsrc := hsrc) (hdst := hdst) (hsem := hsem) (k := k) (Q := Q) (κ₁ := K (c, sendIx j)) (κ₂ := K (peer c j, recvIx (opp j)))
    (r₁ := 0) (r₂ := 0) (d₁ := 0) (d₂ := 0) (fd := fd) (q := shareTok fullShare 7 j) (fs := recvAll m c)
    (by rw [duties_send]; exact Finset.mem_singleton_self _) (by rw [duties_recv]; exact Finset.mem_singleton_self _)
    () () N hN (amount_send m c j 0) (amount_recv m (peer c j) (opp j) 0) O hO (W := W) hpay₁ (hpay₂ fd)) $$ [HO Ht1 Ht2 Hd Hs]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  iexact Hc

/-- The wait for the end of the copy to peer `j`. -/
theorem step_waitSend (c : Dev nD) (j : Fin 7) (sS : DmaSem sig) (hsS : sS = sendS j) {S D : Memref sig .tc .vmem S3x256 .f32}
    (hD : D.view.dmaCredit = N) {hsrc : S.view.WordExact} {hdst : D.view.WordExact}
    {α : Type} {Q : α → sProp 𝕄} {k : PUnit → Prog (TpuEff nD τ sig (Elt F) Λ₀ .tc) α} :
    iprop(records m K ∗ owing c 0 ∗ sndWait c j)
      ⊢ iprop(((owing c 0 ∗ sndDone m c j) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS S D hsrc hdst) k) Q) := by
  subst hsS
  unfold owing sndWait sndDone
  iintro ⟨#HR, ⟨%W, HO⟩, Hc, Hat⟩ Hk
  ihave Hr := (record_send m K c j) $$ HR
  icases Hr with ⟨#HI, -⟩
  iapply (Rounds.wp_wait_rest_token 𝒱₀ ER (sched m) (c : Thread nD τ) none (κ := K (c, sendIx j))
      (wpE_waitDma2_eq 𝒱₀ (c : Thread nD τ) none Set.univ) (Set.mem_univ _) () (O := 0) (W := W) (R := 0) (m := 0) (T := ∅)
      (by rw [Nat.zero_add, expect_send, hD])) $$ [Hc HO Hat]
  · isplitr; · iexact HI
    isplitl [Hc]; · rw [hD]; iexact Hc
    isplitl [HO]; · iexact HO
    isplitr; · rw [MayWait_zero]; iempintro
    iexact Hat
  iintro ⟨HO, Hat, -, Hpay⟩
  ihave Hp := (Entails.of_eq (rest_send m c j)) $$ Hpay
  imod (Rounds.cell_close ER (sched m) (Set.mem_univ (K (c, sendIx j))) (fun h => h) (R := 0 + 1) (duties_later m (sendCell c j))) $$ [Hat] with Hz
  · isplitr; · iexact HI
    iexact Hat
  iapply Hk
  isplitl [HO]; · iexists _; iexact HO
  isplitl [Hz] <;> iassumption

/-- The wait for the copy from peer `j`. -/
theorem step_waitRecv (c : Dev nD) (j : Fin 7) (rS : DmaSem sig) (hrS : rS = recvS j) {S D : Memref sig .tc .vmem S3x256 .f32}
    (hD : D.view.dmaCredit = N) {hsrc : S.view.WordExact} {hdst : D.view.WordExact}
    {α : Type} {Q : α → sProp 𝕄} {k : PUnit → Prog (TpuEff nD τ sig (Elt F) Λ₀ .tc) α} :
    iprop(records m K ∗ owing c 0 ∗ rcvWait c j)
      ⊢ iprop(((owing c 0 ∗ rcvDone m c j) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 rS S D hsrc hdst) k) Q) := by
  subst hrS
  unfold owing rcvWait rcvDone
  iintro ⟨#HR, ⟨%W, HO⟩, Hc, Hat⟩ Hk
  ihave Hr := (record_recv m K c j) $$ HR
  icases Hr with ⟨#HI, -⟩
  iapply (Rounds.wp_wait_rest_token 𝒱₀ ER (sched m) (c : Thread nD τ) none (κ := K (c, recvIx j))
      (wpE_waitDma2_eq 𝒱₀ (c : Thread nD τ) none Set.univ) (Set.mem_univ _) () (O := 0) (W := W) (R := 0) (m := 0) (T := ∅)
      (by rw [Nat.zero_add, expect_recv, hD])) $$ [Hc HO Hat]
  · isplitr; · iexact HI
    isplitl [Hc]; · rw [hD]; iexact Hc
    isplitl [HO]; · iexact HO
    isplitr; · rw [MayWait_zero]; iempintro
    iexact Hat
  iintro ⟨HO, Hat, -, Hpay⟩
  ihave Hp := (Entails.of_eq (rest_recv m c j)) $$ Hpay
  imod (Rounds.cell_close ER (sched m) (Set.mem_univ (K (c, recvIx j))) (fun h => h) (R := 0 + 1) (duties_later m (recvCell c j))) $$ [Hat] with Hz
  · isplitr; · iexact HI
    iexact Hat
  iapply Hk
  isplitl [HO]; · iexists _; iexact HO
  isplitl [Hz] <;> iassumption

/-- The wait for local copy `i`, the debt `O` above it. -/
theorem step_waitCopy (c : Dev nD) (i : Fin 4) (s : DmaSem sig) (hs : s = copyS i) {sp sp' : Space} {s₁ : Shape} {e : EltTy}
    {src : Memref sig .tc sp s₁ e} {dst : Memref sig .tc sp' s₁ e} {hsrc : src.view.WordExact} {hdst : dst.view.WordExact}
    {n : ℕ} (hN : dst.view.dmaCredit = n) {D : sProp 𝕄} (O : CellTallies nD τ sig Unit)
    {α : Type} {Q : α → sProp 𝕄} {k : PUnit → Prog (TpuEff nD τ sig (Elt F) Λ₀ .tc) α} :
    iprop(Transfers.Flight countersEmb (c : Thread nD τ) (.dma (copyS i)) () n D ∗ owing c O ∗ MayWait (c : Thread nD τ) (.dma (copyS i)) () O)
      ⊢ iprop(((owing c O ∗ semVal ((c : Thread nD τ), .dma (copyS i)) 0 ∗ D) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  subst hs
  unfold owing
  iintro ⟨Hf, ⟨%W, HO⟩, Hmw⟩ Hk
  iapply (Transfers.wp_waitLocalO countersEmb 𝒱₀ (c : Thread nD τ) none () hN) $$ [Hf HO Hmw]
  · isplitl [Hf]; · iexact Hf
    isplitl [HO]; · iexact HO
    iexact Hmw
  iintro ⟨HD, Hv, HO⟩
  iapply Hk
  isplitl [HO]; · iexists _; iexact HO
  isplitl [Hv] <;> iassumption

end Steps

end Cert.Exchange

end
-- ==== Proof.Body1.lean ====
/-
  The first half of the kernel's body, one lemma per part of the program: the three local copies in, the seven signals, the
  statistics of the device's own columns, their rows stored, and the wait at the barrier.
-/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open ValueIdx (ix1 ix2 ix3)

variable {F : FTy → Type} [FloatOps F]

local notation "𝕄" => MT nD τ sig Unit (Elt F) ℕ UU ℕ

variable (m : (ℓ : Loc nD τ sig) → Buf (Elt F) ℓ)

/-! ## Names for what the body is called with -/

abbrev aX : Memref sig .tc .hbm S256x512 .f32 := Memref.whole main_arg0
abbrev aW : Memref sig .tc .hbm S512x4096 .f32 := Memref.whole main_arg1
abbrev aL : Memref sig .tc .hbm S256 .i32 := Memref.whole main_arg2
abbrev aO : Memref sig .tc .hbm S256 .f32 := Memref.whole main_v1
abbrev sX : Memref sig .tc .vmem S256x512 .f32 := Memref.whole cc0_scratch0
abbrev sW : Memref sig .tc .vmem S512x2048 .f32 := Memref.whole cc0_scratch1
abbrev sL : Memref sig .tc .vmem S256 .i32 := Memref.whole cc0_scratch2
abbrev sO : Memref sig .tc .vmem S256 .f32 := Memref.whole cc0_scratch3
theorem hw (b : Ref sig .tc) : (Memref.whole b).IsWhole := Memref.isWhole_whole b

/-- The buffer `b` of device `c`, whole, at `f`. -/
abbrev at' (c : Dev nD) (b : Ref sig .tc) (f : b.ty.Contents (Elt F)) : sProp 𝕄 := ((c : Thread nD τ).loc b) ↦{fullShare} f

/-- The counter of local copy `i` of device `c`, at zero. -/
def idleCopy (c : Dev nD) (i : Fin 4) : sProp 𝕄 := semVal ((c : Thread nD τ), .dma (copyS i)) 0

/-- A local copy in flight on copy semaphore `i`, delivering `D`. -/
def flying (c : Dev nD) (i : Fin 4) (n : ℕ) (D : sProp 𝕄) : sProp 𝕄 :=
  Transfers.Flight countersEmb (c : Thread nD τ) (.dma (copyS i)) () n D

/-- The part of `W`'s block that device `c` does not read. -/
def wRest (c : Dev nD) : sProp 𝕄 :=
  ((c : Thread nD τ).loc main_arg1) ↦[Finset.univ \ (wM c).view.set]{fullShare} (m ((c : Thread nD τ).loc main_arg1))

/-- What the three copies in deliver: the scratch buffer at what was copied, and the elements read. -/
def gotX (c : Dev nD) : sProp 𝕄 := iprop(at' c cc0_scratch0 (xOf m c) ∗ at' c main_arg0 (m ((c : Thread nD τ).loc main_arg0)))
def gotL (c : Dev nD) : sProp 𝕄 := iprop(at' c cc0_scratch2 (lblOf m c) ∗ at' c main_arg2 (m ((c : Thread nD τ).loc main_arg2)))
def gotW (c : Dev nD) : sProp 𝕄 :=
  iprop(at' c cc0_scratch1 (wOf m c) ∗ (((c : Thread nD τ).loc main_arg1) ↦[(wM c).view.set]{fullShare} (m ((c : Thread nD τ).loc main_arg1))))

abbrev nX : ℕ := sX.view.dmaCredit
abbrev nL : ℕ := sL.view.dmaCredit
abbrev nW : ℕ := sW.view.dmaCredit
abbrev nO : ℕ := aO.view.dmaCredit

/-- A local copy into the whole of buffer `b`. -/
theorem step_copy (c : Dev nD) (i : Fin 4) (s : DmaSem sig) (hs : s = copyS i) {sp : Space} {sp' : Space} {sh : Shape} {e : EltTy}
    {src : Memref sig .tc sp sh e} {dst : Memref sig .tc sp' sh e} {hsrc : src.view.WordExact} {hdst : dst.view.WordExact}
    {hsem : DmaTarget.Typed (nD := nD) (τ := τ) sp (.dma s : SemLoc sig) (.here (p := (c : Thread nD τ).2) dst)}
    {fs : Buf (Elt F) (src.view.loc (c : Thread nD τ))} {fd : Buf (Elt F) (dst.view.loc (c : Thread nD τ))} (n : ℕ) (hn : dst.view.dmaCredit = n) (hn0 : 0 < n)
    (g : Buf (Elt F) (dst.view.loc (c : Thread nD τ))) (hg : dst.view.write (Elt F) fd (src.view.read (Elt F) fs) Finset.univ = g) (D : sProp 𝕄)
    (hD : iprop((dst.view.loc (c : Thread nD τ) ↦{fullShare} g) ∗ (src.view.loc (c : Thread nD τ) ↦[src.view.set]{fullShare} fs)) = D)
    {α : Type} {Q : α → sProp 𝕄} {k : PUnit → Prog (TpuEff nD τ sig (Elt F) Λ₀ .tc) α} :
    iprop((src.view.loc (c : Thread nD τ) ↦[src.view.set]{fullShare} fs) ∗ (dst.view.loc (c : Thread nD τ) ↦{fullShare} fd) ∗ idleCopy c i)
      ⊢ iprop((flying c i n D -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma s) hsrc hdst hsem) k) Q) := by
  subst hs hg hD
  unfold idleCopy flying
  exact Transfers.wp_dmaLocal countersEmb 𝒱₀ (c : Thread nD τ) none (via := .same) () n hn hn0 (Finset.subset_univ _)

/-! ## The parts -/

section Parts

variable (K : Dev nD × Fin 15 → ℕ)

/-- Part 1: the three copies in are issued. -/
theorem part1 (c : Dev nD) (Q : _ → sProp 𝕄) :
    iprop(at' c main_arg0 (m ((c : Thread nD τ).loc main_arg0)) ∗ at' c main_arg1 (m ((c : Thread nD τ).loc main_arg1)) ∗ at' c main_arg2 (m ((c : Thread nD τ).loc main_arg2))
        ∗ (∃ f, at' c cc0_scratch0 f) ∗ (∃ f, at' c cc0_scratch1 f) ∗ (∃ f, at' c cc0_scratch2 f) ∗ idleCopy c 0 ∗ idleCopy c 1 ∗ idleCopy c 2)
      ⊢ iprop(((flying c 0 nX (gotX m c) ∗ flying c 1 nL (gotL m c) ∗ flying c 2 nW (gotW m c) ∗ wRest m c)
            -∗ ∀ v2 v5 v8 v31 v32 c4 c0, Q ⟨c, v2, v5, v8, baseOf c, SemArray.scalar (sig.barrier 0 rfl), v31, v32, c4, c0⟩)
          -∗ wp frame (wpE (defs₀ (F := F)) 𝒱₀ (c : Thread nD τ) none) Set.univ
            (k0_part1 aX (hw _) aW (hw _) aL (hw _) aO (hw _) sX (hw _) sW (hw _) sL (hw _) sO (hw _) rM (hw _) cc0_scratch5 cc0_scratch6 cc0_scratch7) Q) := by
  simp only [k0_part1_eq_skeleton]; unfold k0_part1_skel baseOf
  simp only [Prog.lift, Prog.bind_op, Prog.bind_ret, Prog.pure_eq_ret, wp_deviceId]
  iintro ⟨H0, H1, H2, ⟨%f0, S0⟩, ⟨%f1, S1⟩, ⟨%f2, S2⟩, C0, C1, C2⟩ Hk
  iapply (step_copy c 0 _ rfl (fs := m ((c : Thread nD τ).loc main_arg0)) (fd := f0) nX rfl (View.dmaCredit_pos _ (by decide)) (xOf m c)
    (View.write_whole_univ ..) (gotX m c) (by rw [View.set_whole]; rfl)) $$ [H0 S0 C0]
  · isplitl [H0]; · rw [View.set_whole]; iexact H0
    isplitl [S0]; · iexact S0
    iexact C0
  iintro F0
  iapply (step_copy c 1 _ rfl (fs := m ((c : Thread nD τ).loc main_arg2)) (fd := f2) nL rfl (View.dmaCredit_pos _ (by decide)) (lblOf m c)
    (View.write_whole_univ ..) (gotL m c) (by rw [View.set_whole]; rfl)) $$ [H2 S2 C1]
  · isplitl [H2]; · rw [View.set_whole]; iexact H2
    isplitl [S2]; · iexact S2
    iexact C1
  iintro F1
  ihave Hs := (pointsTo_split_subset (ℓ := (c : Thread nD τ).loc main_arg1) (q := fullShare) (f := m ((c : Thread nD τ).loc main_arg1)) (S := Finset.univ)
    (Finset.subset_univ (wM c).view.set)).1 $$ H1
  icases Hs with ⟨H1, H1r⟩
  iapply (step_copy c 2 _ rfl (src := wM c) (fs := m ((c : Thread nD τ).loc main_arg1)) (fd := f1) nW rfl (View.dmaCredit_pos _ (by decide)) (wOf m c)
    (View.write_whole_univ ..) (gotW m c) rfl) $$ [H1 S1 C2]
  · isplitl [H1]; · iexact H1
    isplitl [S1]; · iexact S1
    iexact C2
  iintro F2
  rw [wp_ret]; imodintro
  ihave Hk := Hk $$ [F0 F1 F2 H1r]
  · unfold wRest
    isplitl [F0]; · iexact F0
    isplitl [F1]; · iexact F1
    isplitl [F2]; · iexact F2
    iexact H1r
  iapply Hk

/-- Part 2: the signal to peer 0. -/
theorem part2 (c : Dev nD) (v2 v5 v8 v31 v32 c4 c0 : BitVec 32) (Q : _ → sProp 𝕄) :
    iprop(records m K ∗ owing c (OB c 7) ∗ sigRes c 0)
      ⊢ iprop((owing c (OB c 6) -∗ ∀ r, Q r)
          -∗ wp frame (wpE (defs₀ (F := F)) 𝒱₀ (c : Thread nD τ) none) Set.univ
            (k0_part2 aX (hw _) aW (hw _) aL (hw _) aO (hw _) sX (hw _) sW (hw _) sL (hw _) sO (hw _) rM (hw _) cc0_scratch5 cc0_scratch6 cc0_scratch7
              c v2 v5 v8 (SemArray.scalar (sig.barrier 0 rfl)) v31 v32 c4 c0) Q) := by
  simp only [k0_part2_eq_skeleton]; unfold k0_part2_skel
  simp only [semSignalWord, Prog.lift, Prog.bind_op, Prog.bind_ret, Prog.pure_eq_ret]
  iintro H Hk
  iapply (step_signal m K c _ 0 (dev1_eq c) _ rfl (OB c 6) (O₀ := OB c 7) rfl) $$ H
  iintro HO
  rw [wp_ret]; imodintro
  ihave Hk := Hk $$ HO
  iapply Hk

/-- Part 3: the signal to peer 1. -/
theorem part3 (c : Dev nD) (v2 v5 v8 v59 v62 v63 : BitVec 32) (v68 : BitVec 1) (Q : _ → sProp 𝕄) :
    iprop(records m K ∗ owing c (OB c 6) ∗ sigRes c 1)
      ⊢ iprop((owing c (OB c 5) -∗ ∀ r, Q r)
          -∗ wp frame (wpE (defs₀ (F := F)) 𝒱₀ (c : Thread nD τ) none) Set.univ
            (k0_part3 aX (hw _) aW (hw _) aL (hw _) aO (hw _) sX (hw _) sW (hw _) sL (hw _) sO (hw _) rM (hw _) cc0_scratch5 cc0_scratch6 cc0_scratch7
              c v2 v5 v8 (SemArray.scalar (sig.barrier 0 rfl)) v59 v62 v63 v68) Q) := by
  simp only [k0_part3_eq_skeleton]; unfold k0_part3_skel
  simp only [semSignalWord, Prog.lift, Prog.bind_op, Prog.bind_ret, Prog.pure_eq_ret]
  iintro H Hk
  iapply (step_signal m K c _ 1 (dev2_eq c) _ rfl (OB c 5) (O₀ := OB c 6) rfl) $$ H
  iintro HO
  rw [wp_ret]; imodintro
  ihave Hk := Hk $$ HO
  iapply Hk

/-- Part 4: the signals to peers 2 and 3. -/
theorem part4 (c : Dev nD) (v2 v5 v8 v102 v103 : BitVec 32) (Q : _ → sProp 𝕄) :
    iprop(records m K ∗ owing c (OB c 5) ∗ sigRes c 2 ∗ sigRes c 3)
      ⊢ iprop((owing c (OB c 3) -∗ ∀ r, Q r)
          -∗ wp frame (wpE (defs₀ (F := F)) 𝒱₀ (c : Thread nD τ) none) Set.univ
            (k0_part4 aX (hw _) aW (hw _) aL (hw _) aO (hw _) sX (hw _) sW (hw _) sL (hw _) sO (hw _) rM (hw _) cc0_scratch5 cc0_scratch6 cc0_scratch7
              c v2 v5 v8 (SemArray.scalar (sig.barrier 0 rfl)) v102 v103) Q) := by
  simp only [k0_part4_eq_skeleton]; unfold k0_part4_skel
  simp only [semSignalWord, Prog.lift, Prog.bind_op, Prog.bind_ret, Prog.pure_eq_ret]
  iintro ⟨#HR, HO, S2, S3⟩ Hk
  iapply (step_signal m K c _ 2 (dev3_eq c) _ rfl (OB c 4) (O₀ := OB c 5) rfl) $$ [HO S2]
  · isplitr; · iexact HR
    isplitl [HO] <;> iassumption
  iintro HO
  iapply (step_signal m K c _ 3 (dev4_eq c) _ rfl (OB c 3) (O₀ := OB c 4) rfl) $$ [HO S3]
  · isplitr; · iexact HR
    isplitl [HO] <;> iassumption
  iintro HO
  rw [wp_ret]; imodintro
  ihave Hk := Hk $$ HO
  iapply Hk

/-- Part 5: the signal to peer 4. -/
theorem part5 (c : Dev nD) (v2 v5 v8 v135 v136 : BitVec 32) (v137 : BitVec 1) (Q : _ → sProp 𝕄) :
    iprop(records m K ∗ owing c (OB c 3) ∗ sigRes c 4)
      ⊢ iprop((owing c (OB c 2) -∗ ∀ r, Q r)
          -∗ wp frame (wpE (defs₀ (F := F)) 𝒱₀ (c : Thread nD τ) none) Set.univ
            (k0_part5 aX (hw _) aW (hw _) aL (hw _) aO (hw _) sX (hw _) sW (hw _) sL (hw _) sO (hw _) rM (hw _) cc0_scratch5 cc0_scratch6 cc0_scratch7
              c v2 v5 v8 (SemArray.scalar (sig.barrier 0 rfl)) v135 v136 v137) Q) := by
  simp only [k0_part5_eq_skeleton]; unfold k0_part5_skel
  simp only [semSignalWord, Prog.lift, Prog.bind_op, Prog.bind_ret, Prog.pure_eq_ret]
  iintro H Hk
  iapply (step_signal m K c _ 4 (dev5_eq c) _ rfl (OB c 2) (O₀ := OB c 3) rfl) $$ H
  iintro HO
  rw [wp_ret]; imodintro
  ihave Hk := Hk $$ HO
  iapply Hk

/-- Part 6: the signal to peer 5. -/
theorem part6 (c : Dev nD) (v2 v5 v8 v171 v172 c4 c0 : BitVec 32) (Q : _ → sProp 𝕄) :
    iprop(records m K ∗ owing c (OB c 2) ∗ sigRes c 5)
      ⊢ iprop((owing c (OB c 1) -∗ ∀ r, Q r)
          -∗ wp frame (wpE (defs₀ (F := F)) 𝒱₀ (c : Thread nD τ) none) Set.univ
            (k0_part6 aX (hw _) aW (hw _) aL (hw _) aO (hw _) sX (hw _) sW (hw _) sL (hw _) sO (hw _) rM (hw _) cc0_scratch5 cc0_scratch6 cc0_scratch7
              c v2 v5 v8 (SemArray.scalar (sig.barrier 0 rfl)) v171 v172 c4 c0) Q) := by
  simp only [k0_part6_eq_skeleton]; unfold k0_part6_skel
  simp only [semSignalWord, Prog.lift, Prog.bind_op, Prog.bind_ret, Prog.pure_eq_ret]
  iintro H Hk
  iapply (step_signal m K c _ 5 (dev6_eq c) _ rfl (OB c 1) (O₀ := OB c 2) rfl) $$ H
  iintro HO
  rw [wp_ret]; imodintro
  ihave Hk := Hk $$ HO
  iapply Hk

theorem zero1 : (![0] : Fin 1 → Nat) = fun _ => 0 := funext fun a => by fin_cases a; rfl
theorem zero2 : (![0, 0] : Fin 2 → Nat) = fun _ => 0 := funext fun a => by fin_cases a <;> rfl

/-- Part 7: the last signal, the waits for the three copies in, and the three statistics of the device's own columns. -/
theorem part7 (c : Dev nD) (v8 v199 v202 v203 : BitVec 32) (v208 : BitVec 1) (Q : _ → sProp 𝕄) :
    iprop(records m K ∗ levAts L lv ∗ owing c (OB c 1) ∗ sigRes c 6 ∗ flying c 0 nX (gotX m c) ∗ flying c 1 nL (gotL m c) ∗ flying c 2 nW (gotW m c))
      ⊢ iprop(((owing c (OS c 7) ∗ gotX m c ∗ gotL m c ∗ gotW m c ∗ idleCopy c 0 ∗ idleCopy c 1 ∗ idleCopy c 2)
            -∗ Q ⟨statOf m c 0, statOf m c 1, statOf m c 2⟩)
          -∗ wp frame (wpE (defs₀ (F := F)) 𝒱₀ (c : Thread nD τ) none) Set.univ
            (k0_part7 aX (hw _) aW (hw _) aL (hw _) aO (hw _) sX (hw _) sW (hw _) sL (hw _) sO (hw _) rM (hw _) cc0_scratch5 cc0_scratch6 cc0_scratch7
              c v8 (baseOf c) (SemArray.scalar (sig.barrier 0 rfl)) v199 v202 v203 v208) Q) := by
  simp only [k0_part7_eq_skeleton]; unfold k0_part7_skel
  simp only [semSignalWord, Prog.lift, Prog.bind_op, Prog.bind_ret, Prog.pure_eq_ret]
  rw [show statOf m c 0 = k0_pay3 (xOf m c) (wOf m c) from rfl, show statOf m c 1 = k0_pay4 (xOf m c) (wOf m c) from rfl,
    show statOf m c 2 = k0_pay5 (baseOf c) (xOf m c) (wOf m c) (lblOf m c) from rfl]
  unfold flying
  iintro ⟨#HR, #Hlev, HO, S6, F0, F1, F2⟩ Hk
  iapply (step_signal m K c _ 6 (dev7_eq c) _ rfl (OS c 7) (O₀ := OB c 1) rfl) $$ [HO S6]
  · isplitr; · iexact HR
    isplitl [HO] <;> iassumption
  iintro HO
  iapply (step_waitCopy c 0 _ rfl (n := nX) rfl (D := gotX m c) (OS c 7)) $$ [F0 HO]
  · isplitl [F0]; · iexact F0
    isplitl [HO]; · iexact HO
    iapply (mayWait_copy c 0); iexact Hlev
  iintro ⟨HO, C0, D0⟩
  iapply (step_waitCopy c 1 _ rfl (n := nL) rfl (D := gotL m c) (OS c 7)) $$ [F1 HO]
  · isplitl [F1]; · iexact F1
    isplitl [HO]; · iexact HO
    iapply (mayWait_copy c 1); iexact Hlev
  iintro ⟨HO, C1, D1⟩
  iapply (step_waitCopy c 2 _ rfl (n := nW) rfl (D := gotW m c) (OS c 7)) $$ [F2 HO]
  · isplitl [F2]; · iexact F2
    isplitl [HO]; · iexact HO
    iapply (mayWait_copy c 2); iexact Hlev
  iintro ⟨HO, C2, D2⟩
  unfold gotX gotL gotW
  icases D0 with ⟨X0, X1⟩
  icases D1 with ⟨L0, L1⟩
  icases D2 with ⟨W0, W1⟩
  iapply (wp_load 𝒱₀ (c : Thread nD τ) none Set.univ (m := sX) (Finset.subset_univ _)) $$ X0; iintro X0
  rw [show sX.view.readAt (Elt F) _ (xOf m c) = xOf m c from Memref.readAt_unit_zero (Elt F) cc0_scratch0 zero2 _ _]
  iapply (wp_load 𝒱₀ (c : Thread nD τ) none Set.univ (m := sW) (Finset.subset_univ _)) $$ W0; iintro W0
  rw [show sW.view.readAt (Elt F) _ (wOf m c) = wOf m c from Memref.readAt_unit_zero (Elt F) cc0_scratch1 zero2 _ _]
  iapply (wp_load 𝒱₀ (c : Thread nD τ) none Set.univ (m := sL) (Finset.subset_univ _)) $$ L0; iintro L0
  rw [show sL.view.readAt (Elt F) _ (lblOf m c) = lblOf m c from Memref.readAt_unit_zero (Elt F) cc0_scratch2 zero1 _ _]
  rw [wp_ret]; imodintro
  iapply Hk
  isplitl [HO]; · iexact HO
  isplitl [X0 X1]; · isplitl [X0] <;> iassumption
  isplitl [L0 L1]; · isplitl [L0] <;> iassumption
  isplitl [W0 W1]; · isplitl [W0] <;> iassumption
  unfold idleCopy
  isplitl [C0]; · iexact C0
  isplitl [C1] <;> iassumption

/-! The rows of slot 0 -/

theorem row_inb (r : Fin 3) : ∀ a, (![0, r.val, 0] : Fin 3 → Nat) a + S1x1x256.size a ≤ S8x3x256.size a := by
  have := r.isLt; intro a; fin_cases a
  · show 0 + 1 ≤ 8; omega
  · show r.val + 1 ≤ 3; omega
  · show 0 + 256 ≤ 256; omega

/-- Row `r` of slot 0. -/
abbrev rowR (r : Fin 3) : Rect S8x3x256 := Rect.unit (s := S8x3x256) ![0, r.val, 0] S1x1x256.size (row_inb r)

theorem row_sub (r : Fin 3) : (rM.access (rowR r)).set ⊆ (slotM 0).view.set := by
  intro i hi
  rw [mem_slot]
  have h : i ∈ ((View.whole cc0_scratch4).slice (rowR r)).set := hi
  rw [View.set_slice_whole, Rect.mem_set_unit] at h
  have h1 : (i 0).val < 0 + 1 := (h 0).2
  exact Fin.ext (by show (i 0).val = 0; omega)

theorem row_load_sub (r : Fin 3) : rM.view.setOn (rowR r).toLoadRect.set ⊆ (slotM 0).view.set := by
  have h := row_sub r
  rwa [View.set_slice] at h

theorem row_emb (r : Fin 3) (l : Fin 256) : (rM.access (rowR r)).emb (ix3 0 0 l) = ix3 0 r l := by
  funext a
  fin_cases a
  · rfl
  · exact Fin.ext (by show r.val + 1 * 0 = r.val; omega)
  · exact Fin.ext (by show 0 + 1 * l.val = l.val; omega)

/-- A store of row `r`, read at row `r`. -/
theorem row_write_self (r : Fin 3) (f : RBuf F) (w : Vec F S1x1x256 .f32) (l : Fin 256) :
    (rM.access (rowR r)).write (Elt F) f w Finset.univ (ix3 0 r l) = w (ix3 0 0 l) := by
  rw [← row_emb r l]
  exact View.write_emb_of_mem _ _ (Finset.mem_univ _)

/-- A store of row `r`, read at another row. -/
theorem row_write_ne (r r' : Fin 3) (h : r' ≠ r) (f : RBuf F) (w : Vec F S1x1x256 .f32) (l : Fin 256) :
    (rM.access (rowR r)).write (Elt F) f w Finset.univ (ix3 0 r' l) = f (ix3 0 r' l) := by
  refine View.write_of_not_mem _ _ _ ?_
  intro hi
  have hi : ix3 0 r' l ∈ ((View.whole cc0_scratch4).slice (rowR r)).set := hi
  rw [View.set_slice_whole, Rect.mem_set_unit] at hi
  have h1 : r.val ≤ r'.val := (hi 1).1
  have h2 : r'.val < r.val + 1 := (hi 1).2
  exact h (Fin.ext (by omega))

/-- A row of 256 as the kernel stores it. -/
theorem cast_row (v : FVec F S256 .f32) (h : S256.ShapeCasts S1x1x256) (l : Fin 256) : shapeCast S1x1x256 v h (ix3 0 0 l) = v (ix1 l) :=
  shapeCast_apply v h (ix3 0 0 l) (ix1 l) (by
    rw [Shape.rowMajor_val_one, Shape.rowMajor_val_three]; show l.val = (0 * 1 + 0) * 256 + l.val; omega)

theorem pay6_row (v : FVec F S256 .f32) (l : Fin 256) : k0_pay6 v (ix3 0 0 l) = v (ix1 l) := cast_row v shapeCasts_S256_S1x1x256 l
theorem pay7_row (v : FVec F S256 .f32) (l : Fin 256) : k0_pay7 v (ix3 0 0 l) = v (ix1 l) := cast_row v shapeCasts_S256_S1x1x256 l
theorem pay8_row (v : FVec F S256 .f32) (l : Fin 256) : k0_pay8 v (ix3 0 0 l) = v (ix1 l) := cast_row v shapeCasts_S256_S1x1x256 l

/-- The three stores leave in slot 0 what the exchange shares. -/
theorem stored_eq (c : Dev nD) (f : RBuf F) (r : Fin 3) (l : Fin 256) :
    (rM.access (rowR 2)).write (Elt F) ((rM.access (rowR 1)).write (Elt F) ((rM.access (rowR 0)).write (Elt F) f (k0_pay6 (statOf m c 0)) Finset.univ)
      (k0_pay7 (statOf m c 1)) Finset.univ) (k0_pay8 (statOf m c 2)) Finset.univ (ix3 0 r l) = recvAll m c (ix3 0 r l) := by
  have e : recvAll m c (ix3 0 r l) = statOf m c r (ix1 l) := by
    show statOf m (mate c 0) r (ix1 l) = _
    rw [mate_zero]
  rw [e]
  have h0 := (row_write_ne 2 0 (by decide) ((rM.access (rowR 1)).write (Elt F) ((rM.access (rowR 0)).write (Elt F) f (k0_pay6 (statOf m c 0)) Finset.univ)
    (k0_pay7 (statOf m c 1)) Finset.univ) (k0_pay8 (statOf m c 2)) l).trans
    ((row_write_ne 1 0 (by decide) ((rM.access (rowR 0)).write (Elt F) f (k0_pay6 (statOf m c 0)) Finset.univ) (k0_pay7 (statOf m c 1)) l).trans
      ((row_write_self 0 f (k0_pay6 (statOf m c 0)) l).trans (pay6_row (statOf m c 0) l)))
  have h1 := (row_write_ne 2 1 (by decide) ((rM.access (rowR 1)).write (Elt F) ((rM.access (rowR 0)).write (Elt F) f (k0_pay6 (statOf m c 0)) Finset.univ)
    (k0_pay7 (statOf m c 1)) Finset.univ) (k0_pay8 (statOf m c 2)) l).trans
    ((row_write_self 1 ((rM.access (rowR 0)).write (Elt F) f (k0_pay6 (statOf m c 0)) Finset.univ) (k0_pay7 (statOf m c 1)) l).trans (pay7_row (statOf m c 1) l))
  have h2 := (row_write_self 2 ((rM.access (rowR 1)).write (Elt F) ((rM.access (rowR 0)).write (Elt F) f (k0_pay6 (statOf m c 0)) Finset.univ)
    (k0_pay7 (statOf m c 1)) Finset.univ) (k0_pay8 (statOf m c 2)) l).trans (pay8_row (statOf m c 2) l)
  generalize (rM.access (rowR 2)).write (Elt F) _ _ Finset.univ = g at h0 h1 h2 ⊢
  generalize statOf m c = st at h0 h1 h2 ⊢
  fin_cases r
  · exact h0
  · exact h1
  · exact h2

/-- Part 8: the three rows are stored in slot 0, and the wait at the barrier brings the peers' slots. -/
theorem part8 (c : Dev nD) (v2 v5 : BitVec 32) (Q : _ → sProp 𝕄) :
    iprop(records m K ∗ levAts L lv ∗ owing c (OS c 7) ∗ (∃ f, slotPts c 0 fullShare f) ∗ cred (tallyAt (barCell c) () 7) ∗ atPos ER (barCell c) 0 ∅ 0)
      ⊢ iprop(((owing c (OS c 7) ∗ slotPts c 0 fullShare (recvAll m c) ∗ semVal (barCell c) 0 ∗ bigSep Finset.univ fun j : Fin 7 => barPay c j)
            -∗ ∀ r, Q r)
          -∗ wp frame (wpE (defs₀ (F := F)) 𝒱₀ (c : Thread nD τ) none) Set.univ
            (k0_part8 aX (hw _) aW (hw _) aL (hw _) aO (hw _) sX (hw _) sW (hw _) sL (hw _) sO (hw _) rM (hw _) cc0_scratch5 cc0_scratch6 cc0_scratch7
              v2 v5 (SemArray.scalar (sig.barrier 0 rfl)) (statOf m c 0) (statOf m c 1) (statOf m c 2)) Q) := by
  simp only [k0_part8_eq_skeleton]; unfold k0_part8_skel
  simp only [semWaitWord, Prog.lift, Prog.bind_op, Prog.bind_ret, Prog.pure_eq_ret]
  have eS : ∀ f, ((slotM 0).view.loc (c : Thread nD τ) ↦[(slotM 0).view.set]{fullShare} _ : sProp 𝕄) = slotPts c 0 fullShare (recvAll m c) :=
    fun f => slotPts_congr c 0 fullShare fun r l => stored_eq m c f r l
  iintro ⟨#HR, #Hlev, HO, ⟨%f, Hs⟩, Hc, Hat⟩ Hk
  unfold slotPts at *
  iapply (wp_load 𝒱₀ (c : Thread nD τ) none Set.univ (m := rM) (row_load_sub 0)) $$ Hs; iintro Hs
  iapply (wp_store 𝒱₀ (c : Thread nD τ) none Set.univ (m := rM) (r := rowR 0) (Mk := Finset.univ) (row_sub 0)) $$ Hs; iintro Hs
  iapply (wp_load 𝒱₀ (c : Thread nD τ) none Set.univ (m := rM) (row_load_sub 1)) $$ Hs; iintro Hs
  iapply (wp_store 𝒱₀ (c : Thread nD τ) none Set.univ (m := rM) (r := rowR 1) (Mk := Finset.univ) (row_sub 1)) $$ Hs; iintro Hs
  iapply (wp_load 𝒱₀ (c : Thread nD τ) none Set.univ (m := rM) (row_load_sub 2)) $$ Hs; iintro Hs
  iapply (wp_store 𝒱₀ (c : Thread nD τ) none Set.univ (m := rM) (r := rowR 2) (Mk := Finset.univ) (row_sub 2)) $$ Hs; iintro Hs
  iapply (step_waitBar m K c _ rfl) $$ [HO Hc Hat]
  · isplitr; · iexact HR
    isplitr; · iexact Hlev
    isplitl [HO]; · iexact HO
    isplitl [Hc] <;> iassumption
  iintro ⟨HO, Hz, Hp⟩
  rw [wp_ret]; imodintro
  ihave Hk := Hk $$ [HO Hs Hz Hp]
  · isplitl [HO]; · iexact HO
    isplitl [Hs]
    · rw [← eS f]; iexact Hs
    isplitl [Hz] <;> iassumption
  iapply Hk

end Parts

end Cert.Exchange

end
-- ==== Proof.Body2.lean ====
/-
  The second half of the kernel's body, one lemma per part of the program: the seven copies to the peers, the waits for their
  ends, the waits for the peers' copies, and the loads of what they left.
-/
module

public import proofs.«01_k».proof.Proof.Body1

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open ValueIdx (ix1 ix2 ix3)

variable {F : FTy → Type} [FloatOps F]

local notation "𝕄" => MT nD τ sig Unit (Elt F) ℕ UU ℕ

variable (m : (ℓ : Loc nD τ sig) → Buf (Elt F) ℓ)

section Parts

variable (K : Dev nD × Fin 15 → ℕ)

/-- Part 9: the copy to peer 0. -/
theorem part9 (c : Dev nD) (v2 v5 v8 v262 v273 : BitVec 32) (Q : _ → sProp 𝕄) :
    iprop(records m K ∗ owing c (OS c 7) ∗ sndRes m c 0)
      ⊢ iprop(((owing c (OS c 6) ∗ cred (tallyAt (sendCell c 0) () N)) -∗ ∀ r, Q r)
          -∗ wp frame (wpE (defs₀ (F := F)) 𝒱₀ (c : Thread nD τ) none) Set.univ
            (k0_part9 aX (hw _) aW (hw _) aL (hw _) aO (hw _) sX (hw _) sW (hw _) sL (hw _) sO (hw _) rM (hw _) cc0_scratch5 cc0_scratch6 cc0_scratch7
              c v2 v5 v8 v262 v273) Q) := by
  simp only [k0_part9_eq_skeleton]; unfold k0_part9_skel
  simp only [Prog.lift, Prog.bind_op, Prog.bind_ret, Prog.pure_eq_ret]
  iintro H Hk
  iapply (step_send m K c _ 0 (dev8_eq c) _ _ rfl rfl _ _ rfl rfl (OS c 6) (O₀ := OS c 7) rfl) $$ H
  iintro H
  rw [wp_ret]; imodintro
  ihave Hk := Hk $$ H
  iapply Hk

/-- Part 10: the copy to peer 1. -/
theorem part10 (c : Dev nD) (v2 v5 v8 v298 v309 : BitVec 32) (Q : _ → sProp 𝕄) :
    iprop(records m K ∗ owing c (OS c 6) ∗ sndRes m c 1)
      ⊢ iprop(((owing c (OS c 5) ∗ cred (tallyAt (sendCell c 1) () N)) -∗ ∀ r, Q r)
          -∗ wp frame (wpE (defs₀ (F := F)) 𝒱₀ (c : Thread nD τ) none) Set.univ
            (k0_part10 aX (hw _) aW (hw _) aL (hw _) aO (hw _) sX (hw _) sW (hw _) sL (hw _) sO (hw _) rM (hw _) cc0_scratch5 cc0_scratch6 cc0_scratch7
              c v2 v5 v8 v298 v309) Q) := by
  simp only [k0_part10_eq_skeleton]; unfold k0_part10_skel
  simp only [Prog.lift, Prog.bind_op, Prog.bind_ret, Prog.pure_eq_ret]
  iintro H Hk
  iapply (step_send m K c _ 1 (dev9_eq c) _ _ rfl rfl _ _ rfl rfl (OS c 5) (O₀ := OS c 6) rfl) $$ H
  iintro H
  rw [wp_ret]; imodintro
  ihave Hk := Hk $$ H
  iapply Hk

/-- Part 11: the copy to peer 2. -/
theorem part11 (c : Dev nD) (v2 v5 v8 v334 v337 v338 : BitVec 32) (v339 v342 : BitVec 1) (Q : _ → sProp 𝕄) :
    iprop(records m K ∗ owing c (OS c 5) ∗ sndRes m c 2)
      ⊢ iprop(((owing c (OS c 4) ∗ cred (tallyAt (sendCell c 2) () N)) -∗ ∀ r, Q r)
          -∗ wp frame (wpE (defs₀ (F := F)) 𝒱₀ (c : Thread nD τ) none) Set.univ
            (k0_part11 aX (hw _) aW (hw _) aL (hw _) aO (hw _) sX (hw _) sW (hw _) sL (hw _) sO (hw _) rM (hw _) cc0_scratch5 cc0_scratch6 cc0_scratch7
              c v2 v5 v8 v334 v337 v338 v339 v342) Q) := by
  simp only [k0_part11_eq_skeleton]; unfold k0_part11_skel
  simp only [Prog.lift, Prog.bind_op, Prog.bind_ret, Prog.pure_eq_ret]
  iintro H Hk
  iapply (step_send m K c _ 2 (dev10_eq c) _ _ rfl rfl _ _ rfl rfl (OS c 4) (O₀ := OS c 5) rfl) $$ H
  iintro H
  rw [wp_ret]; imodintro
  ihave Hk := Hk $$ H
  iapply Hk

/-- Part 12: the copy to peer 3. -/
theorem part12 (c : Dev nD) (v2 v5 v8 v370 v373 v374 : BitVec 32) (v375 v376 : BitVec 1) (Q : _ → sProp 𝕄) :
    iprop(records m K ∗ owing c (OS c 4) ∗ sndRes m c 3)
      ⊢ iprop(((owing c (OS c 3) ∗ cred (tallyAt (sendCell c 3) () N)) -∗ ∀ r, Q r)
          -∗ wp frame (wpE (defs₀ (F := F)) 𝒱₀ (c : Thread nD τ) none) Set.univ
            (k0_part12 aX (hw _) aW (hw _) aL (hw _) aO (hw _) sX (hw _) sW (hw _) sL (hw _) sO (hw _) rM (hw _) cc0_scratch5 cc0_scratch6 cc0_scratch7
              c v2 v5 v8 v370 v373 v374 v375 v376) Q) := by
  simp only [k0_part12_eq_skeleton]; unfold k0_part12_skel
  simp only [Prog.lift, Prog.bind_op, Prog.bind_ret, Prog.pure_eq_ret]
  iintro H Hk
  iapply (step_send m K c _ 3 (dev11_eq c) _ _ rfl rfl _ _ rfl rfl (OS c 3) (O₀ := OS c 4) rfl) $$ H
  iintro H
  rw [wp_ret]; imodintro
  ihave Hk := Hk $$ H
  iapply Hk

/-- Part 13: the copy to peer 4. -/
theorem part13 (c : Dev nD) (v2 v5 v8 v406 v409 v410 c0 : BitVec 32) (Q : _ → sProp 𝕄) :
    iprop(records m K ∗ owing c (OS c 3) ∗ sndRes m c 4)
      ⊢ iprop(((owing c (OS c 2) ∗ cred (tallyAt (sendCell c 4) () N)) -∗ ∀ r, Q r)
          -∗ wp frame (wpE (defs₀ (F := F)) 𝒱₀ (c : Thread nD τ) none) Set.univ
            (k0_part13 aX (hw _) aW (hw _) aL (hw _) aO (hw _) sX (hw _) sW (hw _) sL (hw _) sO (hw _) rM (hw _) cc0_scratch5 cc0_scratch6 cc0_scratch7
              c v2 v5 v8 v406 v409 v410 c0) Q) := by
  simp only [k0_part13_eq_skeleton]; unfold k0_part13_skel
  simp only [Prog.lift, Prog.bind_op, Prog.bind_ret, Prog.pure_eq_ret]
  iintro H Hk
  iapply (step_send m K c _ 4 (dev12_eq c) _ _ rfl rfl _ _ rfl rfl (OS c 2) (O₀ := OS c 3) rfl) $$ H
  iintro H
  rw [wp_ret]; imodintro
  ihave Hk := Hk $$ H
  iapply Hk

/-- Part 14: the copy to peer 5. -/
theorem part14 (c : Dev nD) (v2 v5 v8 v442 v443 c4 : BitVec 32) (v444 : BitVec 1) (c1 : BitVec 32) (Q : _ → sProp 𝕄) :
    iprop(records m K ∗ owing c (OS c 2) ∗ sndRes m c 5)
      ⊢ iprop(((owing c (OS c 1) ∗ cred (tallyAt (sendCell c 5) () N)) -∗ ∀ r, Q r)
          -∗ wp frame (wpE (defs₀ (F := F)) 𝒱₀ (c : Thread nD τ) none) Set.univ
            (k0_part14 aX (hw _) aW (hw _) aL (hw _) aO (hw _) sX (hw _) sW (hw _) sL (hw _) sO (hw _) rM (hw _) cc0_scratch5 cc0_scratch6 cc0_scratch7
              c v2 v5 v8 v442 v443 c4 v444 c1) Q) := by
  simp only [k0_part14_eq_skeleton]; unfold k0_part14_skel
  simp only [Prog.lift, Prog.bind_op, Prog.bind_ret, Prog.pure_eq_ret]
  iintro H Hk
  iapply (step_send m K c _ 5 (dev13_eq c) _ _ rfl rfl _ _ rfl rfl (OS c 1) (O₀ := OS c 2) rfl) $$ H
  iintro H
  rw [wp_ret]; imodintro
  ihave Hk := Hk $$ H
  iapply Hk

/-- Part 15: the copy to peer 6, and the wait for the end of the copy to peer 0. -/
theorem part15 (c : Dev nD) (v8 v478 v479 c4 : BitVec 32) (Q : _ → sProp 𝕄) :
    iprop(records m K ∗ owing c (OS c 1) ∗ sndRes m c 6 ∗ sndWait c 0)
      ⊢ iprop(((owing c 0 ∗ cred (tallyAt (sendCell c 6) () N) ∗ sndDone m c 0) -∗ ∀ r, Q r)
          -∗ wp frame (wpE (defs₀ (F := F)) 𝒱₀ (c : Thread nD τ) none) Set.univ
            (k0_part15 aX (hw _) aW (hw _) aL (hw _) aO (hw _) sX (hw _) sW (hw _) sL (hw _) sO (hw _) rM (hw _) cc0_scratch5 cc0_scratch6 cc0_scratch7
              c v8 v478 v479 c4) Q) := by
  simp only [k0_part15_eq_skeleton]; unfold k0_part15_skel
  simp only [Prog.lift, Prog.bind_op, Prog.bind_ret, Prog.pure_eq_ret]
  iintro ⟨#HR, HO, S6, WS0⟩ Hk
  iapply (step_send m K c _ 6 (dev14_eq c) _ _ rfl rfl _ _ rfl rfl 0 (O₀ := OS c 1) rfl) $$ [HO S6]
  · isplitr; · iexact HR
    isplitl [HO] <;> iassumption
  iintro ⟨HO, Hc⟩
  iapply (step_waitSend m K c 0 _ rfl (slot_credit 0)) $$ [HO WS0]
  · isplitr; · iexact HR
    isplitl [HO] <;> iassumption
  iintro ⟨HO, DS0⟩
  rw [wp_ret]; imodintro
  ihave Hk := Hk $$ [HO Hc DS0]
  · isplitl [HO]; · iexact HO
    isplitl [Hc] <;> iassumption
  iapply Hk

/-- Part 16: the waits for the ends of the copies to peers 1, 2 and 3. -/
theorem part16 (c : Dev nD) (Q : _ → sProp 𝕄) :
    iprop(records m K ∗ owing c 0 ∗ sndWait c 1 ∗ sndWait c 2 ∗ sndWait c 3)
      ⊢ iprop(((owing c 0 ∗ sndDone m c 1 ∗ sndDone m c 2 ∗ sndDone m c 3) -∗ ∀ r, Q r)
          -∗ wp frame (wpE (defs₀ (F := F)) 𝒱₀ (c : Thread nD τ) none) Set.univ
            (k0_part16 aX (hw _) aW (hw _) aL (hw _) aO (hw _) sX (hw _) sW (hw _) sL (hw _) sO (hw _) rM (hw _) cc0_scratch5 cc0_scratch6 cc0_scratch7) Q) := by
  simp only [k0_part16_eq_skeleton]; unfold k0_part16_skel
  simp only [Prog.lift, Prog.bind_op, Prog.bind_ret, Prog.pure_eq_ret]
  iintro ⟨#HR, HO, WS1, WS2, WS3⟩ Hk
  iapply (step_waitSend m K c 1 _ rfl (slot_credit 0)) $$ [HO WS1]
  · isplitr; · iexact HR
    isplitl [HO] <;> iassumption
  iintro ⟨HO, DS1⟩
  iapply (step_waitSend m K c 2 _ rfl (slot_credit 0)) $$ [HO WS2]
  · isplitr; · iexact HR
    isplitl [HO] <;> iassumption
  iintro ⟨HO, DS2⟩
  iapply (step_waitSend m K c 3 _ rfl (slot_credit 0)) $$ [HO WS3]
  · isplitr; · iexact HR
    isplitl [HO] <;> iassumption
  iintro ⟨HO, DS3⟩
  rw [wp_ret]; imodintro
  ihave Hk := Hk $$ [HO DS1 DS2 DS3]
  · isplitl [HO]; · iexact HO
    isplitl [DS1]; · iexact DS1
    isplitl [DS2] <;> iassumption
  iapply Hk

/-- Part 17: the waits for the ends of the copies to peers 4, 5 and 6, and for the copy from peer 2. -/
theorem part17 (c : Dev nD) (v8 v262 v273 : BitVec 32) (Q : _ → sProp 𝕄) :
    iprop(records m K ∗ owing c 0 ∗ sndWait c 4 ∗ sndWait c 5 ∗ sndWait c 6 ∗ rcvWait c 2)
      ⊢ iprop(((owing c 0 ∗ sndDone m c 4 ∗ sndDone m c 5 ∗ sndDone m c 6 ∗ rcvDone m c 2) -∗ ∀ r, Q r)
          -∗ wp frame (wpE (defs₀ (F := F)) 𝒱₀ (c : Thread nD τ) none) Set.univ
            (k0_part17 aX (hw _) aW (hw _) aL (hw _) aO (hw _) sX (hw _) sW (hw _) sL (hw _) sO (hw _) rM (hw _) cc0_scratch5 cc0_scratch6 cc0_scratch7
              v8 v262 v273) Q) := by
  simp only [k0_part17_eq_skeleton]; unfold k0_part17_skel
  simp only [Prog.lift, Prog.bind_op, Prog.bind_ret, Prog.pure_eq_ret]
  iintro ⟨#HR, HO, WS4, WS5, WS6, WR2⟩ Hk
  iapply (step_waitSend m K c 4 _ rfl (slot_credit 0)) $$ [HO WS4]
  · isplitr; · iexact HR
    isplitl [HO] <;> iassumption
  iintro ⟨HO, DS4⟩
  iapply (step_waitSend m K c 5 _ rfl (slot_credit 0)) $$ [HO WS5]
  · isplitr; · iexact HR
    isplitl [HO] <;> iassumption
  iintro ⟨HO, DS5⟩
  iapply (step_waitSend m K c 6 _ rfl (slot_credit 0)) $$ [HO WS6]
  · isplitr; · iexact HR
    isplitl [HO] <;> iassumption
  iintro ⟨HO, DS6⟩
  iapply (step_waitRecv m K c 2 _ rfl (slot_credit 3)) $$ [HO WR2]
  · isplitr; · iexact HR
    isplitl [HO] <;> iassumption
  iintro ⟨HO, DR2⟩
  rw [wp_ret]; imodintro
  ihave Hk := Hk $$ [HO DS4 DS5 DS6 DR2]
  · isplitl [HO]; · iexact HO
    isplitl [DS4]; · iexact DS4
    isplitl [DS5]; · iexact DS5
    isplitl [DS6] <;> iassumption
  iapply Hk

/-- Part 18: the waits for the copies from peers 1 and 0. -/
theorem part18 (c : Dev nD) (v8 v298 v309 v334 v345 v370 v381 : BitVec 32) (Q : _ → sProp 𝕄) :
    iprop(records m K ∗ owing c 0 ∗ rcvWait c 1 ∗ rcvWait c 0)
      ⊢ iprop(((owing c 0 ∗ rcvDone m c 1 ∗ rcvDone m c 0) -∗ ∀ r, Q r)
          -∗ wp frame (wpE (defs₀ (F := F)) 𝒱₀ (c : Thread nD τ) none) Set.univ
            (k0_part18 aX (hw _) aW (hw _) aL (hw _) aO (hw _) sX (hw _) sW (hw _) sL (hw _) sO (hw _) rM (hw _) cc0_scratch5 cc0_scratch6 cc0_scratch7
              v8 v298 v309 v334 v345 v370 v381) Q) := by
  simp only [k0_part18_eq_skeleton]; unfold k0_part18_skel
  simp only [Prog.lift, Prog.bind_op, Prog.bind_ret, Prog.pure_eq_ret]
  iintro ⟨#HR, HO, WR1, WR0⟩ Hk
  iapply (step_waitRecv m K c 1 _ rfl (slot_credit 2)) $$ [HO WR1]
  · isplitr; · iexact HR
    isplitl [HO] <;> iassumption
  iintro ⟨HO, DR1⟩
  iapply (step_waitRecv m K c 0 _ rfl (slot_credit 1)) $$ [HO WR0]
  · isplitr; · iexact HR
    isplitl [HO] <;> iassumption
  iintro ⟨HO, DR0⟩
  rw [wp_ret]; imodintro
  ihave Hk := Hk $$ [HO DR1 DR0]
  · isplitl [HO]; · iexact HO
    isplitl [DR1] <;> iassumption
  iapply Hk

/-- Part 19: the waits for the copies from peers 3 and 6. -/
theorem part19 (c : Dev nD) (v8 v406 v417 v442 v453 v585 : BitVec 32) (Q : _ → sProp 𝕄) :
    iprop(records m K ∗ owing c 0 ∗ rcvWait c 3 ∗ rcvWait c 6)
      ⊢ iprop(((owing c 0 ∗ rcvDone m c 3 ∗ rcvDone m c 6) -∗ ∀ r, Q r)
          -∗ wp frame (wpE (defs₀ (F := F)) 𝒱₀ (c : Thread nD τ) none) Set.univ
            (k0_part19 aX (hw _) aW (hw _) aL (hw _) aO (hw _) sX (hw _) sW (hw _) sL (hw _) sO (hw _) rM (hw _) cc0_scratch5 cc0_scratch6 cc0_scratch7
              v8 v406 v417 v442 v453 v585) Q) := by
  simp only [k0_part19_eq_skeleton]; unfold k0_part19_skel
  simp only [Prog.lift, Prog.bind_op, Prog.bind_ret, Prog.pure_eq_ret]
  iintro ⟨#HR, HO, WR3, WR6⟩ Hk
  iapply (step_waitRecv m K c 3 _ rfl (slot_credit 4)) $$ [HO WR3]
  · isplitr; · iexact HR
    isplitl [HO] <;> iassumption
  iintro ⟨HO, DR3⟩
  iapply (step_waitRecv m K c 6 _ rfl (slot_credit 7)) $$ [HO WR6]
  · isplitr; · iexact HR
    isplitl [HO] <;> iassumption
  iintro ⟨HO, DR6⟩
  rw [wp_ret]; imodintro
  ihave Hk := Hk $$ [HO DR3 DR6]
  · isplitl [HO]; · iexact HO
    isplitl [DR3] <;> iassumption
  iapply Hk

/-! The rows of all slots -/

theorem col_inb (r : Fin 3) : ∀ a, (![0, r.val, 0] : Fin 3 → Nat) a + S8x1x256.size a ≤ S8x3x256.size a := by
  have := r.isLt; intro a; fin_cases a
  · show 0 + 8 ≤ 8; omega
  · show r.val + 1 ≤ 3; omega
  · show 0 + 256 ≤ 256; omega

/-- Row `r` of every slot, as the kernel loads it. -/
def rowsAll (c : Dev nD) (r : Fin 3) : Vec F S8x1x256 .f32 :=
  rM.view.readAt (Elt F) (Rect.unit (s := S8x3x256) ![0, r.val, 0] S8x1x256.size (col_inb r)).toLoadRect (recvAll m c)

/-- What device `c` computes. -/
def outAt (c : Dev nD) : FVec F S256 .f32 := k0_pay1 (k0_pay9 (rowsAll m c 0) (rowsAll m c 1) (rowsAll m c 2))

theorem eight (f : Fin 8 → sProp 𝕄) : bigSep Finset.univ f = iprop(f 0 ∗ f 1 ∗ f 2 ∗ f 3 ∗ f 4 ∗ f 5 ∗ f 6 ∗ f 7) := by
  rw [bigSep_univ_eq_bigSepL [0, 1, 2, 3, 4, 5, 6, 7] (by decide) (by decide)]
  simp only [bigSepL_cons_cons, bigSepL_singleton]
  rfl

theorem seven (f : Fin 7 → sProp 𝕄) : bigSep Finset.univ f = iprop(f 0 ∗ f 1 ∗ f 2 ∗ f 3 ∗ f 4 ∗ f 5 ∗ f 6) := by
  rw [bigSep_univ_eq_bigSepL [0, 1, 2, 3, 4, 5, 6] (by decide) (by decide)]
  simp only [bigSepL_cons_cons, bigSepL_singleton]
  rfl

/-- Slot 0 and the seven slots the peers fill are the whole landing buffer. -/
theorem gathered (c : Dev nD) :
    iprop(slotPts c 0 fullShare (recvAll m c) ∗ bigSep Finset.univ fun j : Fin 7 => recvPay m c j) = at' c cc0_scratch4 (recvAll m c) := by
  rw [seven, show at' c cc0_scratch4 (recvAll m c) = _ from slots_eq c (recvAll m c), eight]
  rfl

/-- Part 20: the waits for the copies from peers 5 and 4, and the loads of the rows of all slots. -/
theorem part20 (c : Dev nD) (v8 v478 v489 : BitVec 32) (Q : _ → sProp 𝕄) :
    iprop(records m K ∗ owing c 0 ∗ rcvWait c 5 ∗ rcvWait c 4 ∗ slotPts c 0 fullShare (recvAll m c)
        ∗ (recvPay m c 0 ∗ recvPay m c 1 ∗ recvPay m c 2 ∗ recvPay m c 3 ∗ recvPay m c 6) ∗ ∃ f, at' c cc0_scratch3 f)
      ⊢ iprop(((owing c 0 ∗ semVal (recvCell c 5) 0 ∗ semVal (recvCell c 4) 0 ∗ at' c cc0_scratch4 (recvAll m c) ∗ ∃ f, at' c cc0_scratch3 f) -∗ ∀ w, Q ⟨k0_pay9 (rowsAll m c 0) (rowsAll m c 1) (rowsAll m c 2), w⟩)
          -∗ wp frame (wpE (defs₀ (F := F)) 𝒱₀ (c : Thread nD τ) none) Set.univ
            (k0_part20 aX (hw _) aW (hw _) aL (hw _) aO (hw _) sX (hw _) sW (hw _) sL (hw _) sO (hw _) rM (hw _) cc0_scratch5 cc0_scratch6 cc0_scratch7
              v8 v478 v489) Q) := by
  simp only [k0_part20_eq_skeleton]; unfold k0_part20_skel
  simp only [Prog.lift, Prog.bind_op, Prog.bind_ret, Prog.pure_eq_ret]
  rw [show rowsAll m c 0 = rM.view.readAt (Elt F) (Rect.unit (s := S8x3x256) ![0, 0, 0] ![8, 1, 256] inb_S8x3x256_S8x1x256_0_0_0).toLoadRect (recvAll m c) from rfl]
  rw [show rowsAll m c 1 = rM.view.readAt (Elt F) (Rect.unit (s := S8x3x256) ![0, 1, 0] ![8, 1, 256] inb_S8x3x256_S8x1x256_0_1_0).toLoadRect (recvAll m c) from rfl]
  rw [show rowsAll m c 2 = rM.view.readAt (Elt F) (Rect.unit (s := S8x3x256) ![0, 2, 0] ![8, 1, 256] inb_S8x3x256_S8x1x256_0_2_0).toLoadRect (recvAll m c) from rfl]
  iintro ⟨#HR, HO, WR5, WR4, Hs, ⟨P0, P1, P2, P3, P6⟩, ⟨%f, Ho⟩⟩ Hk
  iapply (step_waitRecv m K c 5 _ rfl (slot_credit 6)) $$ [HO WR5]
  · isplitr; · iexact HR
    isplitl [HO] <;> iassumption
  iintro ⟨HO, DR5⟩
  iapply (step_waitRecv m K c 4 _ rfl (slot_credit 5)) $$ [HO WR4]
  · isplitr; · iexact HR
    isplitl [HO] <;> iassumption
  iintro ⟨HO, DR4⟩
  unfold rcvDone
  icases DR5 with ⟨Z5, P5⟩
  icases DR4 with ⟨Z4, P4⟩
  ihave Hb := (Entails.of_eq (gathered m c)) $$ [Hs P0 P1 P2 P3 P4 P5 P6]
  · isplitl [Hs]; · iexact Hs
    rw [seven]
    isplitl [P0]; · iexact P0
    isplitl [P1]; · iexact P1
    isplitl [P2]; · iexact P2
    isplitl [P3]; · iexact P3
    isplitl [P4]; · iexact P4
    isplitl [P5] <;> iassumption
  iapply (wp_load 𝒱₀ (c : Thread nD τ) none Set.univ (m := rM) (Finset.subset_univ _)) $$ Hb; iintro Hb
  iapply (wp_load 𝒱₀ (c : Thread nD τ) none Set.univ (m := rM) (Finset.subset_univ _)) $$ Hb; iintro Hb
  iapply (wp_load 𝒱₀ (c : Thread nD τ) none Set.univ (m := rM) (Finset.subset_univ _)) $$ Hb; iintro Hb
  iapply (wp_load 𝒱₀ (c : Thread nD τ) none Set.univ (m := sO) (Finset.subset_univ _)) $$ Ho; iintro Ho
  rw [wp_ret]; imodintro
  ihave Hk := Hk $$ [HO Z4 Z5 Hb Ho]
  · isplitl [HO]; · iexact HO
    isplitl [Z5]; · iexact Z5
    isplitl [Z4]; · iexact Z4
    isplitl [Hb]; · iexact Hb
    iexists f; iexact Ho
  iapply Hk

end Parts

end Cert.Exchange

end
-- ==== Proof.Body3.lean ====
/-
  The whole body of the kernel on one device, from its part lemmas: from what a device holds at the start to what it holds at
  the end, the result at `outAt`.
-/
module

public import proofs.«01_k».proof.Proof.Body2

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open ValueIdx (ix1 ix2 ix3)

variable {F : FTy → Type} [FloatOps F]

local notation "𝕄" => MT nD τ sig Unit (Elt F) ℕ UU ℕ

variable (m : (ℓ : Loc nD τ sig) → Buf (Elt F) ℓ)

/-- The tokens of the duties device `c` pays to peer `j`. -/
def toks (c : Dev nD) (j : Fin 7) : sProp 𝕄 :=
  iprop(dutyTok ER (barCell (peer c j)) 0 (opp j) ∗ dutyTok ER (sendCell c j) 0 0 ∗ dutyTok ER (recvCell (peer c j) (opp j)) 0 0)

/-- The arguments of device `c`, as launched. -/
def args (c : Dev nD) : sProp 𝕄 :=
  iprop(at' c main_arg0 (m ((c : Thread nD τ).loc main_arg0)) ∗ at' c main_arg1 (m ((c : Thread nD τ).loc main_arg1)) ∗ at' c main_arg2 (m ((c : Thread nD τ).loc main_arg2)))

/-- The scratch buffers of device `c`, at any contents. -/
def scratch (c : Dev nD) : sProp 𝕄 :=
  iprop((∃ f, at' c cc0_scratch0 f) ∗ (∃ f, at' c cc0_scratch1 f) ∗ (∃ f, at' c cc0_scratch2 f) ∗ (∃ f, at' c cc0_scratch3 f) ∗ ∃ f, at' c cc0_scratch4 f)

/-- The counters of the local copies, at zero. -/
def copyCells (c : Dev nD) : sProp 𝕄 := iprop(idleCopy c 0 ∗ idleCopy c 1 ∗ idleCopy c 2 ∗ idleCopy c 3)

/-- What device `c` starts the body with. -/
def bodyPre (K : Dev nD × Fin 15 → ℕ) (c : Dev nD) : sProp 𝕄 :=
  iprop((records m K ∗ levAts L lv) ∗ owing c (OB c 7)
    ∗ ((bigSep Finset.univ fun j : Fin 7 => toks c j)
      ∗ (cred (tallyAt (barCell c) () 7) ∗ atPos ER (barCell c) 0 ∅ 0)
      ∗ (bigSep Finset.univ fun j : Fin 7 => (atPos ER (sendCell c j) 0 ∅ 0 : sProp 𝕄))
      ∗ bigSep Finset.univ fun j : Fin 7 => rcvWait c j)
    ∗ copyCells c ∗ (args m c ∗ ∃ f, at' c main_v1 f) ∗ scratch c)

/-- What it ends with. -/
def bodyPost (c : Dev nD) : sProp 𝕄 :=
  iprop(owing c 0
    ∗ (semVal (barCell c) 0 ∗ (bigSep Finset.univ fun j : Fin 7 => (semVal (sendCell c j) 0 : sProp 𝕄)) ∗ bigSep Finset.univ fun j : Fin 7 => (semVal (recvCell c j) 0 : sProp 𝕄))
    ∗ copyCells c ∗ (args m c ∗ at' c main_v1 (outAt m c)) ∗ scratch c)

/-- The whole landing buffer at any contents is its eight slots, each at some contents. -/
theorem slots_any (c : Dev nD) : (iprop(∃ f, at' c cc0_scratch4 f) : sProp 𝕄)
    ⊢ iprop((∃ f, slotPts c 0 fullShare f) ∗ bigSep Finset.univ fun j : Fin 7 => iprop(∃ f, slotPts c j.succ fullShare f)) := by
  rw [seven]
  iintro ⟨%f, H⟩
  ihave H := (Entails.of_eq (show at' c cc0_scratch4 f = _ from (slots_eq c f).trans (eight _))) $$ H
  icases H with ⟨H0, H1, H2, H3, H4, H5, H6, H7⟩
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  isplitl [H6]; · iexists f; iexact H6
  iexists f; iexact H7

/-- Two families, paired member by member. -/
theorem pairs {ι : Type} [DecidableEq ι] (S : Finset ι) (f g : ι → sProp 𝕄) : iprop(bigSep S f ∗ bigSep S g) = bigSep S fun j => iprop(f j ∗ g j) :=
  (bigSep_sep ..).symm

/-- The duties' tokens and the slots, by what each step takes. -/
theorem signals_split (c : Dev nD) :
    iprop((bigSep Finset.univ fun j : Fin 7 => toks c j) ∗ bigSep Finset.univ fun j : Fin 7 => (iprop(∃ f, slotPts c j.succ fullShare f) : sProp 𝕄))
      ⊢ iprop((bigSep Finset.univ fun j : Fin 7 => sigRes c j)
        ∗ bigSep Finset.univ fun j : Fin 7 => iprop(dutyTok ER (sendCell c j) 0 0 ∗ dutyTok ER (recvCell (peer c j) (opp j)) 0 0)) := by
  rw [pairs, pairs]
  have h : ∀ j : Fin 7, (iprop(toks c j ∗ ∃ f, slotPts c j.succ fullShare f) : sProp 𝕄)
      ⊢ iprop(sigRes c j ∗ (dutyTok ER (sendCell c j) 0 0 ∗ dutyTok ER (recvCell (peer c j) (opp j)) 0 0)) := fun j => by
    unfold toks sigRes
    iintro ⟨⟨H1, H2⟩, H3⟩
    isplitr [H2]
    · isplitl [H1] <;> iassumption
    iexact H2
  exact bigSep_mono fun j _ => h j

/-- Slot 0 in seven shares, one for each copy, and a remainder. -/
theorem shares (c : Dev nD) :
    (slotPts c 0 fullShare (recvAll m c) : sProp 𝕄) ⊣⊢ iprop(slotPts c 0 (shareDrop fullShare 7) (recvAll m c) ∗ bigSep Finset.univ fun j : Fin 7 => sendPay m c j) := by
  unfold slotPts sendPay slotPts
  exact ⟨Transfers.pointsTo_toks_split fullShare 7, Transfers.pointsTo_toks_join fullShare 7⟩

/-- The barrier's seven slots, the shares and the tokens, by what each copy takes. -/
theorem sends_join (c : Dev nD) :
    iprop((bigSep Finset.univ fun j : Fin 7 => (iprop(dutyTok ER (sendCell c j) 0 0 ∗ dutyTok ER (recvCell (peer c j) (opp j)) 0 0) : sProp 𝕄))
        ∗ (bigSep Finset.univ fun j : Fin 7 => barPay c j) ∗ bigSep Finset.univ fun j : Fin 7 => sendPay m c j)
      ⊢ bigSep Finset.univ fun j : Fin 7 => sndRes m c j := by
  rw [pairs, pairs]
  exact bigSep_mono fun j _ => BI.Entails.refl _

set_option maxHeartbeats 4000000 in
/-- The body on device `c`, from `bodyPre` to `bodyPost`, part by part. -/
theorem sound_body (K : Dev nD × Fin 15 → ℕ) (c : Dev nD) (Kt : PUnit → sProp 𝕄) :
    iprop(bodyPre m K c ∗ (bodyPost m c -∗ Kt ⟨⟩))
      ⊢ wp frame (wpE (defs₀ (F := F)) 𝒱₀ (c : Thread nD τ) none) Set.univ
          (cc0_body aX (hw _) aW (hw _) aL (hw _) aO (hw _) sX (hw _) sW (hw _) sL (hw _) sO (hw _) rM (hw _) cc0_scratch5 cc0_scratch6 cc0_scratch7) Kt := by
  simp only [cc0_body_eq_skeleton]; unfold cc0_body_skel
  unfold bodyPre args scratch copyCells
  iintro ⟨⟨⟨#HR, #Hlev⟩, HO, ⟨Ht, ⟨HcB, HaB⟩, HaS, HvR⟩, ⟨C0, C1, C2, C3⟩, ⟨⟨A0, A1, A2⟩, ⟨%fo, AO⟩⟩, ⟨X0, X1, X2, X3, X4⟩⟩, Hk⟩
  ihave X4 := (slots_any c) $$ X4
  icases X4 with ⟨Z0, Zs⟩
  ihave Hs := (signals_split c) $$ [Ht Zs]
  · isplitl [Ht] <;> iassumption
  icases Hs with ⟨Hsig, Htok⟩
  ihave Hsig := (Entails.of_eq (seven _)) $$ Hsig
  icases Hsig with ⟨G0, G1, G2, G3, G4, G5, G6⟩
  rw [wp_bind]
  iapply (part1 m c) $$ [A0 A1 A2 X0 X1 X2 C0 C1 C2]
  · isplitl [A0]; · iexact A0
    isplitl [A1]; · iexact A1
    isplitl [A2]; · iexact A2
    isplitl [X0]; · iexact X0
    isplitl [X1]; · iexact X1
    isplitl [X2]; · iexact X2
    isplitl [C0]; · iexact C0
    isplitl [C1] <;> iassumption
  iintro ⟨F0, F1, F2, Wr⟩ %v2 %v5 %v8 %v31 %v32 %c4 %c0
  try dsimp only
  rw [wp_bind]
  iapply (part2 m K c) $$ [HO G0]
  · isplitr; · iexact HR
    isplitl [HO] <;> iassumption
  iintro HO %r2
  try dsimp only
  rw [wp_bind]
  iapply (part3 m K c) $$ [HO G1]
  · isplitr; · iexact HR
    isplitl [HO] <;> iassumption
  iintro HO %r3
  try dsimp only
  rw [wp_bind]
  iapply (part4 m K c) $$ [HO G2 G3]
  · isplitr; · iexact HR
    isplitl [HO]; · iexact HO
    isplitl [G2] <;> iassumption
  iintro HO %r4
  try dsimp only
  rw [wp_bind]
  iapply (part5 m K c) $$ [HO G4]
  · isplitr; · iexact HR
    isplitl [HO] <;> iassumption
  iintro HO %r5
  try dsimp only
  rw [wp_bind]
  iapply (part6 m K c) $$ [HO G5]
  · isplitr; · iexact HR
    isplitl [HO] <;> iassumption
  iintro HO %r6
  try dsimp only
  rw [wp_bind]
  iapply (part7 m K c) $$ [HO G6 F0 F1 F2]
  · isplitr; · iexact HR
    isplitr; · iexact Hlev
    isplitl [HO]; · iexact HO
    isplitl [G6]; · iexact G6
    isplitl [F0]; · iexact F0
    isplitl [F1] <;> iassumption
  iintro ⟨HO, D0, D1, D2, C0, C1, C2⟩
  try dsimp only
  rw [wp_bind]
  iapply (part8 m K c) $$ [HO Z0 HcB HaB]
  · isplitr; · iexact HR
    isplitr; · iexact Hlev
    isplitl [HO]; · iexact HO
    isplitl [Z0]; · iexact Z0
    isplitl [HcB] <;> iassumption
  iintro ⟨HO, Z0, VB, Hbar⟩ %r7
  try dsimp only
  ihave Z0 := (shares m c).1 $$ Z0
  icases Z0 with ⟨Zr, Zs⟩
  ihave Hs := (sends_join m c) $$ [Htok Hbar Zs]
  · isplitl [Htok]; · iexact Htok
    isplitl [Hbar] <;> iassumption
  ihave Hs := (Entails.of_eq (seven _)) $$ Hs
  icases Hs with ⟨G0, G1, G2, G3, G4, G5, G6⟩
  rw [wp_bind]
  iapply (part9 m K c) $$ [HO G0]
  · isplitr; · iexact HR
    isplitl [HO] <;> iassumption
  iintro ⟨HO, K0⟩ %r8
  try dsimp only
  rw [wp_bind]
  iapply (part10 m K c) $$ [HO G1]
  · isplitr; · iexact HR
    isplitl [HO] <;> iassumption
  iintro ⟨HO, K1⟩ %r9
  try dsimp only
  rw [wp_bind]
  iapply (part11 m K c) $$ [HO G2]
  · isplitr; · iexact HR
    isplitl [HO] <;> iassumption
  iintro ⟨HO, K2⟩ %r10
  try dsimp only
  rw [wp_bind]
  iapply (part12 m K c) $$ [HO G3]
  · isplitr; · iexact HR
    isplitl [HO] <;> iassumption
  iintro ⟨HO, K3⟩ %r11
  try dsimp only
  rw [wp_bind]
  iapply (part13 m K c) $$ [HO G4]
  · isplitr; · iexact HR
    isplitl [HO] <;> iassumption
  iintro ⟨HO, K4⟩ %r12
  try dsimp only
  rw [wp_bind]
  iapply (part14 m K c) $$ [HO G5]
  · isplitr; · iexact HR
    isplitl [HO] <;> iassumption
  iintro ⟨HO, K5⟩ %r13
  try dsimp only
  ihave HaS := (Entails.of_eq (seven _)) $$ HaS
  icases HaS with ⟨P0, P1, P2, P3, P4, P5, P6⟩
  rw [wp_bind]
  iapply (part15 m K c) $$ [HO G6 K0 P0]
  · isplitr; · iexact HR
    isplitl [HO]; · iexact HO
    isplitl [G6]; · iexact G6
    unfold sndWait
    isplitl [K0] <;> iassumption
  iintro ⟨HO, K6, D3⟩ %v489
  rw [wp_bind]
  iapply (part16 m K c) $$ [HO K1 P1 K2 P2 K3 P3]
  · isplitr; · iexact HR
    isplitl [HO]; · iexact HO
    unfold sndWait
    isplitl [K1 P1]; · isplitl [K1] <;> iassumption
    isplitl [K2 P2]; · isplitl [K2] <;> iassumption
    isplitl [K3] <;> iassumption
  iintro ⟨HO, S1, S2, S3⟩ %_
  ihave HvR := (Entails.of_eq (seven _)) $$ HvR
  icases HvR with ⟨R0, R1, R2, R3, R4, R5, R6⟩
  rw [wp_bind]
  iapply (part17 m K c) $$ [HO K4 P4 K5 P5 K6 P6 R2]
  · isplitr; · iexact HR
    isplitl [HO]; · iexact HO
    unfold sndWait
    isplitl [K4 P4]; · isplitl [K4] <;> iassumption
    isplitl [K5 P5]; · isplitl [K5] <;> iassumption
    isplitl [K6 P6]; · isplitl [K6] <;> iassumption
    iexact R2
  iintro ⟨HO, S4, S5, S6, R2⟩ %_
  rw [wp_bind]
  iapply (part18 m K c) $$ [HO R1 R0]
  · isplitr; · iexact HR
    isplitl [HO]; · iexact HO
    isplitl [R1] <;> iassumption
  iintro ⟨HO, R1, R0⟩ %v585
  rw [wp_bind]
  iapply (part19 m K c) $$ [HO R3 R6]
  · isplitr; · iexact HR
    isplitl [HO]; · iexact HO
    isplitl [R3] <;> iassumption
  iintro ⟨HO, R3, R6⟩ %_
  unfold sndDone rcvDone
  icases D3 with ⟨VS0, Q0⟩
  icases S1 with ⟨VS1, Q1⟩
  icases S2 with ⟨VS2, Q2⟩
  icases S3 with ⟨VS3, Q3⟩
  icases S4 with ⟨VS4, Q4⟩
  icases S5 with ⟨VS5, Q5⟩
  icases S6 with ⟨VS6, Q6⟩
  icases R0 with ⟨VR0, P0⟩
  icases R1 with ⟨VR1, P1⟩
  icases R2 with ⟨VR2, P2⟩
  icases R3 with ⟨VR3, P3⟩
  icases R6 with ⟨VR6, P6⟩
  ihave Z0 := (shares m c).2 $$ [Zr Q0 Q1 Q2 Q3 Q4 Q5 Q6]
  · isplitl [Zr]; · iexact Zr
    rw [seven]
    isplitl [Q0]; · iexact Q0
    isplitl [Q1]; · iexact Q1
    isplitl [Q2]; · iexact Q2
    isplitl [Q3]; · iexact Q3
    isplitl [Q4]; · iexact Q4
    isplitl [Q5] <;> iassumption
  rw [wp_bind]
  iapply (part20 m K c) $$ [HO R5 R4 Z0 P0 P1 P2 P3 P6 X3]
  · isplitr; · iexact HR
    isplitl [HO]; · iexact HO
    isplitl [R5]; · iexact R5
    isplitl [R4]; · iexact R4
    isplitl [Z0]; · iexact Z0
    isplitr [X3]
    · isplitl [P0]; · iexact P0
      isplitl [P1]; · iexact P1
      isplitl [P2]; · iexact P2
      isplitl [P3] <;> iassumption
    iexact X3
  iintro ⟨HO, VR5, VR4, X4, ⟨%f3, X3⟩⟩ %w
  try dsimp only
  simp only [Prog.lift, Prog.bind_op, Prog.bind_ret, Prog.pure_eq_ret]
  iapply (wp_store 𝒱₀ (c : Thread nD τ) none Set.univ (m := sO) (r := Rect.unit (s := S256) ![0] S256.size inb_S256_S256_0) (Mk := Finset.univ) (Finset.subset_univ _)) $$ X3; iintro X3
  have eO : (sO.access (Rect.unit (s := S256) ![0] S256.size inb_S256_S256_0)).write (Elt F) f3
      (k0_pay1 (k0_pay9 (rowsAll m c 0) (rowsAll m c 1) (rowsAll m c 2))) Finset.univ = outAt m c :=
    Memref.write_access_unit_zero_univ (Elt F) cc0_scratch3 zero1 _ _ _
  rw [eO]
  iapply (step_copy c 3 _ rfl (fs := outAt m c) (fd := fo) nO rfl (View.dmaCredit_pos _ (by decide)) (outAt m c)
    (View.write_whole_univ ..) _ rfl) $$ [X3 AO C3]
  · isplitl [X3]; · rw [View.set_whole]; iexact X3
    isplitl [AO]; · iexact AO
    iexact C3
  iintro F3
  unfold flying
  iapply (step_waitCopy c 3 _ rfl (n := nO) rfl 0) $$ [F3 HO]
  · isplitl [F3]; · iexact F3
    isplitl [HO]; · iexact HO
    rw [MayWait_zero]; iempintro
  iintro ⟨HO, C3, ⟨AO, X3⟩⟩
  rw [View.set_whole, wp_ret]; imodintro
  iapply Hk
  unfold gotX gotL gotW wRest
  icases D0 with ⟨X0, A0⟩
  icases D1 with ⟨X2, A2⟩
  icases D2 with ⟨X1, A1⟩
  ihave A1 := (pointsTo_split_subset (ℓ := (c : Thread nD τ).loc main_arg1) (q := fullShare) (f := m ((c : Thread nD τ).loc main_arg1)) (S := Finset.univ)
    (Finset.subset_univ (wM c).view.set)).2 $$ [A1 Wr]
  · isplitl [A1] <;> iassumption
  unfold bodyPost args scratch copyCells
  rw [seven, seven]
  isplitl [HO]; · iexact HO
  isplitl [VB VS0 VS1 VS2 VS3 VS4 VS5 VS6 VR0 VR1 VR2 VR3 VR4 VR5 VR6]
  · isplitl [VB]; · iexact VB
    isplitl [VS0 VS1 VS2 VS3 VS4 VS5 VS6]
    · isplitl [VS0]; · iexact VS0
      isplitl [VS1]; · iexact VS1
      isplitl [VS2]; · iexact VS2
      isplitl [VS3]; · iexact VS3
      isplitl [VS4]; · iexact VS4
      isplitl [VS5] <;> iassumption
    isplitl [VR0]; · iexact VR0
    isplitl [VR1]; · iexact VR1
    isplitl [VR2]; · iexact VR2
    isplitl [VR3]; · iexact VR3
    isplitl [VR4]; · iexact VR4
    isplitl [VR5] <;> iassumption
  isplitl [C0 C1 C2 C3]
  · isplitl [C0]; · iexact C0
    isplitl [C1]; · iexact C1
    isplitl [C2]; · iexact C2
    unfold idleCopy; iexact C3
  isplitl [A0 A1 A2 AO]
  · isplitr [AO]
    · isplitl [A0]; · iexact A0
      isplitl [A1] <;> iassumption
    iexact AO
  isplitl [X0]; · iexists _; iexact X0
  isplitl [X1]; · iexists _; iexact X1
  isplitl [X2]; · iexists _; iexact X2
  isplitl [X3]; · iexists _; iexact X3
  iexists _; iexact X4

end Cert.Exchange

end
-- ==== Proof.Launch.lean ====
/-
  The launch: the ghost state of the exchange set up and dealt to the devices, the credit each device starts with, and from
  the body on every device the run of the whole program. For any float values.
-/
module

public import proofs.«01_k».proof.Proof.Body3
public import Idealize.ShloMosaic.Lib.Pipeline.CollectiveSegs

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds before and after its one point -/

/-- The counter of the semaphore nothing uses, at zero. -/
def idle (c : Dev nD) : sProp 𝕄 := semVal ((c : Thread nD τ), .dma idleS) 0

/-- The tokens a device pays with and its positions at its own cells. -/
def linear (c : Dev nD) : sProp 𝕄 :=
  iprop((bigSep Finset.univ fun j : Fin 7 => toks c j) ∗ atPos ER (barCell c) 0 ∅ 0
    ∗ (bigSep Finset.univ fun j : Fin 7 => (atPos ER (sendCell c j) 0 ∅ 0 : sProp 𝕄)) ∗ bigSep Finset.univ fun j : Fin 7 => (atPos ER (recvCell c j) 0 ∅ 0 : sProp 𝕄))

/-- The counters that are no cells of the exchange. -/
def plain (c : Dev nD) : sProp 𝕄 := iprop(idle c ∗ copyCells c)

/-- The credit a device starts with: seven units at its barrier, a transfer at each receive cell. -/
def credits (c : Dev nD) : sProp 𝕄 :=
  iprop(cred (tallyAt (barCell c) () 7) ∗ bigSep Finset.univ fun j : Fin 7 => (cred (tallyAt (recvCell c j) () N) : sProp 𝕄))

/-- What the set-up leaves with a device. -/
def ghost (c : Dev nD) : sProp 𝕄 := iprop(∃ K, records m K ∗ linear c ∗ plain c)

/-- The buffers at launch. -/
def atStart (c : Dev nD) : sProp 𝕄 := iprop(args m c ∗ ∃ f, at' c main_v1 f)
/-- And after the run. -/
def atEnd (c : Dev nD) : sProp 𝕄 := iprop(args m c ∗ at' c main_v1 (outAt m c))

/-- The scoped buffers apart, what the body starts from. -/
def start (c : Dev nD) : sProp 𝕄 := iprop(ghost m c ∗ credits c ∗ levAts L lv ∗ atStart m c)

/-- The counters of the exchange, at zero. -/
def closed (c : Dev nD) : sProp 𝕄 :=
  iprop((bigSep Finset.univ fun j : Fin 7 => (semVal (sendCell c j) 0 : sProp 𝕄)) ∗ bigSep Finset.univ fun j : Fin 7 => (semVal (recvCell c j) 0 : sProp 𝕄))

def before (c : Dev nD) : sProp 𝕄 := iprop(start m c ∗ scratch c)
def done (c : Dev nD) : sProp 𝕄 := iprop((semVal (barCell c) 0 ∗ closed c) ∗ plain c ∗ atEnd m c ∗ scratch c)

/-- The proof data of the one pipeline: no window, one point. -/
def dats (_ : Fin 1) (c : Dev nD) : Dat τ (Elt F) Unit ℕ UU ℕ cfg0 c where
  A w := m ((cfg0.win w).arr.view.loc (c : Thread nD τ))
  after w _ := Fin.elim0 w
  Φ t := match t with
    | ⟨0, _⟩ => before m c
    | ⟨_ + 1, _⟩ => done m c
  q _ := fullShare
  owed t := match t with
    | ⟨0, _⟩ => OB c 7
    | ⟨_ + 1, _⟩ => 0

theorem rcvWaits (c : Dev nD) :
    iprop((bigSep Finset.univ fun j : Fin 7 => (cred (tallyAt (recvCell c j) () N) : sProp 𝕄)) ∗ bigSep Finset.univ fun j : Fin 7 => (atPos ER (recvCell c j) 0 ∅ 0 : sProp 𝕄))
      = bigSep Finset.univ fun j : Fin 7 => rcvWait c j := by
  rw [pairs]; rfl

theorem bigSep_none (Φ : Fin cfg0.W → sProp 𝕄) : bigSep Finset.univ Φ = iprop(emp) := by
  rw [show (Finset.univ : Finset (Fin cfg0.W)) = ∅ from rfl, bigSep_empty]; rfl

theorem obligation (c : Dev nD) :
    iprop(before m c ∗ (dats m 0 c).owesAt () (t0_0 : Fin cfg0.N).castSucc)
      ⊢ wp frame (wpE (defs₀ (F := F)) 𝒱₀ (c : Thread nD τ) none) Set.univ
          (cc0_body aX (hw _) aW (hw _) aL (hw _) aO (hw _) sX (hw _) sW (hw _) sL (hw _) sO (hw _) (Memref.whole cc0_scratch4) (hw _) cc0_scratch5 cc0_scratch6 cc0_scratch7)
          (fun _ => iprop(done m c ∗ (dats m 0 c).owesAt () (t0_0 : Fin cfg0.N).succ)) := by
  unfold before start ghost linear credits plain atStart
  iintro ⟨⟨⟨⟨%K, #HR, ⟨Ht, Hb, Hs, Hr⟩, Hidle, Hcp⟩, ⟨Hcb, Hcr⟩, #Hlev, Hat⟩, Hscr⟩, HO⟩
  iapply (sound_body m K c)
  isplitr [Hidle]
  · unfold bodyPre
    isplitr
    · isplitr; · iexact HR
      iexact Hlev
    isplitl [HO]
    · unfold Dat.owesAt Pipeline.owesWithin owing
      icases HO with ⟨%W, -, HO⟩
      iexists W; iexact HO
    isplitl [Ht Hb Hs Hr Hcb Hcr]
    · isplitl [Ht]; · iexact Ht
      isplitl [Hb Hcb]
      · isplitl [Hcb] <;> iassumption
      isplitl [Hs]; · iexact Hs
      iapply (Entails.of_eq (rcvWaits c))
      isplitl [Hcr] <;> iassumption
    isplitl [Hcp]; · iexact Hcp
    isplitl [Hat]; · iexact Hat
    iexact Hscr
  · unfold bodyPost done atEnd
    iintro ⟨HO, ⟨HB, HS, HV⟩, Hcp, Hat, Hscr⟩
    isplitr [HO]
    · isplitl [HB HS HV]
      · isplitl [HB]; · iexact HB
        unfold closed
        isplitl [HS] <;> iassumption
      isplitl [Hidle Hcp]
      · unfold plain
        isplitl [Hidle] <;> iassumption
      isplitl [Hat]; · iexact Hat
      iexact Hscr
    · unfold Dat.owesAt Pipeline.owesWithin owing
      icases HO with ⟨%W, HO⟩
      iexists W
      isplitr; · ipureintro; exact fun _ _ => Or.inl trivial
      iexact HO

/-- The body's obligation on every device. -/
theorem body_obligation (c : Dev nD) : BodyObligation (dats (F := F) m 0 c) (defs₀ (F := F)) 𝒱₀ () Set.univ := fun t => by
  rw [fin_N0 t]
  rw [bigSep_none, bigSep_none]
  have h0 : iprop(before m c ∗ (dats m 0 c).owesAt () (t0_0 : Fin cfg0.N).castSucc ∗ emp)
      ⊢ iprop(before m c ∗ (dats m 0 c).owesAt () (t0_0 : Fin cfg0.N).castSucc) := by
    iintro ⟨H1, H2, -⟩
    isplitl [H1] <;> iassumption
  have h1 : iprop(done m c ∗ (dats m 0 c).owesAt () (t0_0 : Fin cfg0.N).succ)
      ⊢ iprop(done m c ∗ (dats m 0 c).owesAt () (t0_0 : Fin cfg0.N).succ ∗ emp) := by
    iintro ⟨H1, H2⟩
    isplitl [H1]; · iexact H1
    isplitl [H2]; · iexact H2
    iempintro
  exact h0.trans ((obligation m c).trans ((wp _ _ _ _).mono fun _ => h1))

/-! ## The ghost state set up -/

theorem ownSemFacts : Pipeline.OwnSemFacts cfg0.spec osem := by decide

theorem csem_injective : Function.Injective csem := by decide
theorem kcell_injective : Function.Injective (kcell : Dev nD × Fin 15 → GSem nD τ sig) := by
  rintro ⟨c, k⟩ ⟨c', k'⟩ h
  exact Prod.ext (congrArg (fun g : GSem nD τ sig => g.1.1) h) (csem_injective (congrArg Prod.snd h))
def exCells : Finset (GSem nD τ sig) := Finset.univ.map ⟨kcell, kcell_injective⟩

/-- A device's duties at its own cells: for each peer one at the barrier, one at a send cell, one at a receive cell. -/
def dutyAt (x : Fin 7 × Fin 3) : SemLoc sig × Fin 7 := match x.2 with
  | 0 => (.reg barS, x.1) | 1 => (.dma (sendS x.1), 0) | 2 => (.dma (recvS x.1), 0)
theorem dutyAt_injective : Function.Injective dutyAt := by decide
abbrev tokOf (cx : Dev nD × (Fin 7 × Fin 3)) : GSem nD τ sig × ℕ × Fin 7 := (((cx.1 : Thread nD τ), (dutyAt cx.2).1), 0, (dutyAt cx.2).2)
theorem tokOf_injective : Function.Injective tokOf := by
  rintro ⟨c, x⟩ ⟨c', x'⟩ h
  exact Prod.ext (congrArg (fun g : GSem nD τ sig × ℕ × Fin 7 => g.1.1.1) h)
    (dutyAt_injective (congrArg (fun g : GSem nD τ sig × ℕ × Fin 7 => (g.1.2, g.2.2)) h))
def exToks : Finset (GSem nD τ sig × ℕ × Fin 7) := Finset.univ.map ⟨tokOf, tokOf_injective⟩

def u₀ : UU :=
  (initOf (Pipeline.cells cfgs cellOf_inj) (Pipeline.launchToks cfgs cellOf_inj), (initOf exCells exToks, 1))

/-- The duty tokens of device `c`'s own cells, peer `j`'s. -/
def mine (c : Dev nD) (j : Fin 7) : sProp 𝕄 :=
  iprop(dutyTok ER (barCell c) 0 j ∗ dutyTok ER (sendCell c j) 0 0 ∗ dutyTok ER (recvCell c j) 0 0)

/-- What the launch element deals device `c`. -/
def dealt (c : Dev nD) : sProp 𝕄 :=
  iprop((bigSep Finset.univ fun k : Fin 15 => roundState ER (sched m) (kcell (c, k)) 0)
    ∗ (bigSep Finset.univ fun k : Fin 15 => iprop(atPos ER (kcell (c, k)) 0 ∅ 0 ∗ reached ER (kcell (c, k)) 0))
    ∗ bigSep Finset.univ fun j : Fin 7 => mine c j)

theorem three (Φ : Fin 3 → sProp 𝕄) : bigSep Finset.univ Φ = iprop(Φ 0 ∗ Φ 1 ∗ Φ 2) := bigSep_univ_eq_bigSepL [0, 1, 2] (by decide) (by decide) Φ

theorem fund_exchange : BI.own (ER (initOf exCells exToks)) ⊢ (|==> bigSep Finset.univ (dealt m) : sProp 𝕄) := by
  have hX (Φ : GSem nD τ sig → sProp 𝕄) : bigSep exCells Φ = bigSep Finset.univ fun c : Dev nD => bigSep Finset.univ fun k : Fin 15 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => bigSep Finset.univ fun j : Fin 7 => mine c j := by
    unfold exToks; rw [bigSep_map, bigSep_univ_prod]
    exact bigSep_congr fun c _ => by
      rw [bigSep_univ_prod]
      exact bigSep_congr fun j _ => by unfold mine; rw [three]; rfl
  iintro HX
  imod (Rounds.fund ER (sched m) exCells exToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

theorem fund_pair : BI.own (((Emb.inl : Emb UB (UB × Counters)).trans embR : Emb UB 𝕄) (initOf exCells exToks)) ⊢ (|==> bigSep Finset.univ (dealt m) : sProp 𝕄) :=
  fund_exchange m

/-- Fifteen cells: the barrier, the send cells, the receive cells. -/
theorem fifteen (Φ : Fin 15 → sProp 𝕄) : (bigSep Finset.univ Φ : sProp 𝕄)
    ⊣⊢ iprop(Φ 0 ∗ (bigSep Finset.univ fun j : Fin 7 => Φ (sendIx j)) ∗ bigSep Finset.univ fun j : Fin 7 => Φ (recvIx j)) := by
  have e : bigSep Finset.univ Φ = iprop(Φ 0 ∗ Φ (sendIx 0) ∗ Φ (sendIx 1) ∗ Φ (sendIx 2) ∗ Φ (sendIx 3) ∗ Φ (sendIx 4) ∗ Φ (sendIx 5) ∗ Φ (sendIx 6) ∗ Φ (recvIx 0) ∗ Φ (recvIx 1) ∗ Φ (recvIx 2) ∗ Φ (recvIx 3) ∗ Φ (recvIx 4) ∗ Φ (recvIx 5) ∗ Φ (recvIx 6)) := by
    rw [bigSep_univ_eq_bigSepL [0, 1, 2, 3, 4, 5, 6, 7, 8, 9, 10, 11, 12, 13, 14] (by decide) (by decide) Φ]; rfl
  rw [seven, seven, e]
  constructor
  · iintro ⟨H0, H1, H2, H3, H4, H5, H6, H7, H8⟩
    isplitl [H0]; · iexact H0
    isplitr [H8]
    · isplitl [H1]; · iexact H1
      isplitl [H2]; · iexact H2
      isplitl [H3]; · iexact H3
      isplitl [H4]; · iexact H4
      isplitl [H5]; · iexact H5
      isplitl [H6] <;> iassumption
    · iexact H8
  · iintro ⟨H0, ⟨H1, H2, H3, H4, H5, H6, H7⟩, H8⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The kernel's own semaphores: the send cells, the idle one, the receive cells, the copies'. -/
theorem ownSems (c : Dev nD) : (Pipeline.ownSems0 (Ix := Unit) (Name := ℕ) (U := UU) (Lvl := ℕ) (Val := Elt F) (τ := τ) osem c : sProp 𝕄)
    ⊣⊢ iprop(closed c ∗ plain c) := by
  unfold closed plain idle copyCells idleCopy
  let Φ : DmaSem sig → sProp 𝕄 := fun i => semVal ((c : Thread nD τ), .dma i) 0
  have e : (Pipeline.ownSems0 (Ix := Unit) (Name := ℕ) (U := UU) (Lvl := ℕ) (Val := Elt F) (τ := τ) osem c : sProp 𝕄)
      = iprop(Φ (sendS 0) ∗ Φ (sendS 1) ∗ Φ (sendS 2) ∗ Φ (sendS 3) ∗ Φ (sendS 4) ∗ Φ (sendS 5) ∗ Φ (sendS 6) ∗ Φ idleS ∗ Φ (recvS 0) ∗ Φ (recvS 1) ∗ Φ (recvS 2) ∗ Φ (recvS 3) ∗ Φ (recvS 4) ∗ Φ (recvS 5) ∗ Φ (recvS 6) ∗ Φ (copyS 0) ∗ Φ (copyS 1) ∗ Φ (copyS 2) ∗ Φ (copyS 3)) := by
    rw [Pipeline.ownSems0_eq_of_list c osem [0, 1, 2, 3, 4, 5, 6, 7, 8, 9, 10, 11, 12, 13, 14, 15, 16, 17, 18] (by decide) (by decide)]; rfl
  rw [seven, seven, e]
  constructor
  · iintro ⟨H0, H1, H2, H3, H4, H5, H6, H7, G0, G1, G2, G3, G4, G5, G6, H8⟩
    isplitr [H7 H8]
    · isplitr [G0 G1 G2 G3 G4 G5 G6]
      · isplitl [H0]; · iexact H0
        isplitl [H1]; · iexact H1
        isplitl [H2]; · iexact H2
        isplitl [H3]; · iexact H3
        isplitl [H4]; · iexact H4
        isplitl [H5] <;> iassumption
      · isplitl [G0]; · iexact G0
        isplitl [G1]; · iexact G1
        isplitl [G2]; · iexact G2
        isplitl [G3]; · iexact G3
        isplitl [G4]; · iexact G4
        isplitl [G5] <;> iassumption
    · isplitl [H7]; · iexact H7
      iexact H8
  · iintro ⟨⟨⟨H0, H1, H2, H3, H4, H5, H6⟩, G0, G1, G2, G3, G4, G5, G6⟩, H7, H8⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [G0]; · iexact G0
    isplitl [G1]; · iexact G1
    isplitl [G2]; · iexact G2
    isplitl [G3]; · iexact G3
    isplitl [G4]; · iexact G4
    isplitl [G5]; · iexact G5
    isplitl [G6]; · iexact G6
    iexact H8

/-- The barrier semaphore is the launch's one unscoped semaphore. -/
theorem unscopedSems (c : Dev nD) : (unscopedSems0 c : sProp 𝕄) = semVal (barCell c) 0 := by
  unfold unscopedSems0; rw [bigSep_eq_bigSepL_of_eq [SemLoc.reg barS] (by decide) (by decide)]; rfl

theorem sems_cells (c : Dev nD) :
    iprop(semVal (barCell c) 0 ∗ closed c) ⊢ (bigSep Finset.univ fun k : Fin 15 => semVal (kcell (c, k)) 0 : sProp 𝕄) := by
  refine .trans ?_ (fifteen _).2
  unfold closed
  simp only [kcell_send, kcell_recv, kcell_bar]
  exact .rfl

theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ (bigSep Finset.univ fun j : Fin 7 => mine c j) ∗ plain c) := by
  unfold dealt
  rw [unscopedSems]
  iintro ⟨Hos, Hus, Hst, Hat, Htok⟩
  ihave Hos := (ownSems (F := F) c).1 $$ Hos
  icases Hos with ⟨Hcl, Hpl⟩
  ihave Hv := (sems_cells (F := F) c) $$ [Hus Hcl]
  · isplitl [Hus] <;> iassumption
  imod (show iprop((bigSep Finset.univ fun k : Fin 15 => semVal (kcell (c, k)) 0) ∗ bigSep Finset.univ fun k : Fin 15 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hpl

/-- Device and peer to that peer and its opposite, undone by itself. -/
def turn : Dev nD × Fin 7 ≃ Dev nD × Fin 7 :=
  ⟨fun x => (peer x.1 x.2, opp x.2), fun x => (peer x.1 x.2, opp x.2),
    fun x => Prod.ext (peer_opp x.1 x.2) (opp_opp x.2), fun x => Prod.ext (peer_opp x.1 x.2) (opp_opp x.2)⟩

/-- A family over devices and peers, each member moved to the peer at the opposite offset. -/
theorem moved (T : Dev nD → Fin 7 → sProp 𝕄) :
    (bigSep Finset.univ fun c : Dev nD => bigSep Finset.univ fun j : Fin 7 => T c j)
      = bigSep Finset.univ fun c : Dev nD => bigSep Finset.univ fun j : Fin 7 => T (peer c j) (opp j) := by
  rw [← bigSep_univ_prod (fun x : Dev nD × Fin 7 => T x.1 x.2), bigSep_univ_equiv turn (fun x : Dev nD × Fin 7 => T x.1 x.2), bigSep_univ_prod]; rfl

/-- The tokens dealt to the devices that pay. -/
theorem toks_around : (bigSep Finset.univ fun c : Dev nD => bigSep Finset.univ fun j : Fin 7 => (mine c j : sProp 𝕄))
    ⊢ bigSep Finset.univ fun c : Dev nD => bigSep Finset.univ fun j : Fin 7 => toks c j := by
  unfold mine toks
  simp only [bigSep_sep']
  rw [moved fun c j => dutyTok ER (barCell c) 0 j, moved fun c j => dutyTok ER (recvCell c j) 0 0]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 15 → ℕ) (c : Dev nD) :
    iprop(records m K ∗ ((bigSep Finset.univ fun k : Fin 15 => (atPos ER (kcell (c, k)) 0 ∅ 0 : sProp 𝕄)) ∗ (bigSep Finset.univ fun j : Fin 7 => toks c j) ∗ plain c))
      ⊢ ghost m c := by
  unfold ghost linear
  iintro ⟨#HR, Hat, Htk, Hpl⟩
  ihave Hat := (fifteen (F := F) fun k => atPos ER (kcell (c, k)) 0 ∅ 0).1 $$ Hat
  simp only [kcell_send, kcell_recv, kcell_bar]
  icases Hat with ⟨HB, HS, HV⟩
  iexists K
  isplitr; · iexact HR
  isplitr [Hpl]
  · isplitl [Htk]; · iexact Htk
    isplitl [HB]; · iexact HB
    isplitl [HS] <;> iassumption
  iexact Hpl

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ (bigSep Finset.univ fun j : Fin 7 => mine c j) ∗ plain c) : sProp 𝕄)
      ⊢ bigSep Finset.univ (ghost m) := by
  rw [bigSep_sep', bigSep_sep', bigSep_sep', ← bigSep_univ_prod (fun ck : Dev nD × Fin 15 => iprop(∃ κ : ℕ, cellInv ER (sched m) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok, Hpl⟩
  ihave HK := (BI.bigSep_exists_pi Finset.univ (fun (ck : Dev nD × Fin 15) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · simp only [bigSep_sep']
    isplitl [Hat]; · iexact Hat
    isplitl [Htk]; · iexact Htk
    iexact Hpl

/-- The global step of the launch. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ghost m) :=
  ((bigSep_mono fun c _ => core_alloc m c).trans (bigSep_fupd _ _)).trans (BI.fupd_mono (regroup m))

/-! ## The launch credit -/

/-- All that a device owes at the start, peer by peer. -/
theorem owed_eq (d : Dev nD) (g : GSem nD τ sig) :
    OB d 7 g () = ∑ j : Fin 7, (tallyAt (recvCell (peer d j) (opp j)) () N g () + tallyAt (barCell (peer d j)) () 1 g ()) := by
  rw [Finset.sum_add_distrib, Fin.sum_univ_seven, Fin.sum_univ_seven]
  simp only [OB, OS, Pi.add_apply, Finsupp.add_apply, Pi.zero_apply, Finsupp.zero_apply,
    show nth 0 = 6 from rfl, show nth 1 = 5 from rfl, show nth 2 = 4 from rfl, show nth 3 = 3 from rfl, show nth 4 = 2 from rfl, show nth 5 = 1 from rfl, show nth 6 = 0 from rfl]
  omega

theorem total (f : Dev nD → Fin 7 → ℕ) (c : Dev nD) : (∑ d : Dev nD, ∑ j : Fin 7, f (peer d j) (opp j)) = ∑ d : Dev nD, ∑ j : Fin 7, f d j := by
  rw [← Fintype.sum_prod_type' (fun d j => f (peer d j) (opp j)), ← Fintype.sum_prod_type' f]
  exact Equiv.sum_comp turn fun x : Dev nD × Fin 7 => f x.1 x.2

theorem bar_inj {a b : Dev nD} : barCell a = barCell b ↔ b = a :=
  ⟨fun h => (congrArg (fun g : GSem nD τ sig => g.1.1) h).symm, fun h => h ▸ rfl⟩
theorem recvS_inj {j k : Fin 7} (h : (SemLoc.dma (recvS j) : SemLoc sig) = .dma (recvS k)) : k = j := by
  revert j k; decide
theorem recv_inj {a b : Dev nD} {j k : Fin 7} : recvCell a j = recvCell b k ↔ b = a ∧ k = j :=
  ⟨fun h => ⟨(congrArg (fun g : GSem nD τ sig => g.1.1) h).symm, recvS_inj (congrArg Prod.snd h)⟩, fun h => by rw [h.1, h.2]⟩
theorem recv_ne_bar (j : Fin 7) : (SemLoc.dma (recvS j) : SemLoc sig) ≠ .reg barS := fun h => by cases h

theorem launch_bar (c : Dev nD) :
    tallyOn (barCell c) (launchCredit (Pipeline.owing fun d => OB d 7) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_eq d (barCell c),
    total (fun d j => tallyAt (recvCell d j) () N (barCell c) () + tallyAt (barCell d) () 1 (barCell c) ()) c]
  have h : ∀ d : Dev nD, ∀ j : Fin 7, tallyAt (recvCell d j) () N (barCell c) () + tallyAt (barCell d) () 1 (barCell c) () = if d = c then 1 else 0 := fun d j => by
    rw [tallyAt_ne_cell (fun h => recv_ne_bar j (congrArg Prod.snd h).symm), Finsupp.zero_apply, Nat.zero_add, tallyAt_apply]
    simp only [bar_inj, and_true]
  simp only [h, Finset.sum_const, Finset.card_univ, Fintype.card_fin, smul_eq_mul, ← Finset.mul_sum, Finset.sum_ite_eq', Finset.mem_univ, if_true, Nat.mul_one]

theorem launch_recv (c : Dev nD) (k : Fin 7) :
    tallyOn (recvCell c k) (launchCredit (Pipeline.owing fun d => OB d 7) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_eq d (recvCell c k),
    total (fun d j => tallyAt (recvCell d j) () N (recvCell c k) () + tallyAt (barCell d) () 1 (recvCell c k) ()) c]
  have h : ∀ d : Dev nD, ∀ j : Fin 7, tallyAt (recvCell d j) () N (recvCell c k) () + tallyAt (barCell d) () 1 (recvCell c k) () = if d = c then (if j = k then N else 0) else 0 := fun d j => by
    have e : tallyAt (barCell d) () 1 (recvCell c k) = 0 := tallyAt_ne_cell (fun h => recv_ne_bar k (congrArg Prod.snd h)) () 1
    rw [e, Finsupp.zero_apply, Nat.add_zero, tallyAt_apply]
    simp only [recv_inj, and_true, ← ite_and]
  simp only [h]
  rw [Finset.sum_congr rfl fun d _ => show (∑ j : Fin 7, if d = c then (if j = k then N else 0) else 0) = if d = c then N else 0 from by
    split
    · rw [Finset.sum_ite_eq' Finset.univ k fun _ => N, if_pos (Finset.mem_univ _)]
    · exact Finset.sum_const_zero]
  rw [Finset.sum_ite_eq' Finset.univ c fun _ => N, if_pos (Finset.mem_univ _)]

theorem creds (c : Dev nD) : (Pipeline.launchCred (fun d => OB d 7) c : sProp 𝕄) ⊢ credits c := by
  unfold Pipeline.launchCred credits
  rw [bigSep_univ_at _ (SemLoc.reg barS), launch_bar]
  refine sep_mono_right ?_
  have e : (fun j : Fin 7 => (cred (tallyAt (recvCell c j) () N) : sProp 𝕄))
      = fun j => cred (tallyOn (recvCell c j) (launchCredit (Pipeline.owing fun d => OB d 7) 0 (recvCell c j))) := funext fun j => by rw [launch_recv]
  rw [e]
  let r : Fin 7 ↪ SemLoc sig := ⟨fun j => .dma (recvS j), fun j k h => (recvS_inj h).symm⟩
  exact (BI.bigSep_subset (fun s hs => by
    obtain ⟨j, -, rfl⟩ := Finset.mem_map.mp hs
    exact Finset.mem_erase.mpr ⟨recv_ne_bar j, Finset.mem_univ _⟩)).trans (Entails.of_eq (BI.bigSep_map r))

/-! ## The side conditions of the launch -/

theorem start_intro (c : Dev nD) :
    iprop(Pipeline.unscopedRestP Pipeline.Prefetch.none cfg0.spec c (fun b => m ((c : Thread nD τ).loc b)) ∗ levAts L lv
        ∗ Pipeline.launchCred (fun d => OB d 7) c ∗ prngReg c (ρ c) ∗ ghost m c)
      ⊢ |={Set.univ}=> iprop(start m c ∗ emp) := by
  rw [Pipeline.unscopedRestP_none, unscopedRest0_eq]
  iintro ⟨⟨H0, H1, H2, H3⟩, Hlev, Hcr, -, HG⟩
  ihave Hc := (creds (F := F) c) $$ Hcr
  imodintro
  unfold start atStart args
  isplitl
  · isplitl [HG]; · iexact HG
    isplitl [Hc]; · iexact Hc
    isplitl [Hlev]; · iexact Hlev
    isplitr [H3]
    · isplitl [H0]; · iexact H0
      isplitl [H1] <;> iassumption
    · iexists _; iexact H3
  · iempintro

theorem before_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before
  iintro ⟨Hs, -, Hr⟩
  isplitl [Hs]; · iexact Hs
  unfold scratch; iexact Hr

theorem done_exit (c : Dev nD) :
    (dats m 0 c).Φ (Fin.last cfg0.N) ⊢ iprop((unscopedSems0 c ∗ atEnd m c) ∗ Pipeline.ownSems0 osem c ∗ Pipeline.scopedRest cfg0.spec c) := by
  rw [show (dats m 0 c).Φ (Fin.last cfg0.N) = done m c from rfl, scopedRest0_eq, unscopedSems]
  unfold done
  iintro ⟨⟨HB, Hcl⟩, Hpl, Hat, Hscr⟩
  isplitl [HB Hat]
  · isplitl [HB] <;> iassumption
  isplitl [Hcl Hpl]
  · iapply (ownSems (F := F) c).2
    isplitl [Hcl] <;> iassumption
  unfold scratch; iexact Hscr

theorem waits (c : Dev nD) : (levAts L lv : sProp 𝕄) ⊢ Pipeline.cellsWaits cfgs (dats m) () 0 c :=
  Pipeline.cellsWaits_intro cfgs (dats m) () 0 c fun w s t => w.elim0

/-- What is read off the final memory of device `c`: the result, the arguments, the counters. -/
def Final (c : Dev nD) (s : MemSt nD τ sig (Elt F)) : Prop :=
  s.mem ((c : Thread nD τ).loc main_v1) = outAt m c ∧ s.mem ((c : Thread nD τ).loc main_arg0) = m ((c : Thread nD τ).loc main_arg0)
    ∧ s.mem ((c : Thread nD τ).loc main_arg1) = m ((c : Thread nD τ).loc main_arg1) ∧ s.mem ((c : Thread nD τ).loc main_arg2) = m ((c : Thread nD τ).loc main_arg2)

theorem read_end (c : Dev nD) (s' : Phys nD τ sig (Elt F)) :
    iprop((unscopedSems0 c ∗ atEnd m c) ∗ emp ∗ SI s')
      ⊢ |={Set.univ}=> iprop(⌜Final m c s'.mem ∧ ∀ sm : SemLoc sig, sm.isScoped .tc = false → s'.mem.sem ((c.tc : Thread nD τ), sm) = 0⌝ ∗ SI s') := by
  unfold atEnd args
  iintro ⟨⟨Hu, ⟨H0, H1, H2⟩, H3⟩, -, HSI⟩
  icombine HSI H0 gives %h0
  icombine HSI H1 gives %h1
  icombine HSI H2 gives %h2
  icombine HSI H3 gives %h3
  imod (Pipeline.unscopedSems0_read (X := unscopedSems0 c) (c := c) fupd_intro s') $$ [Hu HSI] with ⟨%h, HSI⟩
  · isplitl [Hu] <;> iassumption
  imodintro
  isplitr
  · ipureintro
    exact ⟨⟨funext fun i => h3 i (Finset.mem_univ i), funext fun i => h0 i (Finset.mem_univ i), funext fun i => h1 i (Finset.mem_univ i), funext fun i => h2 i (Finset.mem_univ i)⟩, h⟩
  iexact HSI

/-! ## The run -/

set_option maxRecDepth 8000 in
/-- For any float values, from any memory with zero counters: every weakly fair execution of the program on the thirty-two
    devices ends, with each device's result at `outAt`, its arguments as they were and every counter at zero. -/
theorem run_main : θ_run defs (onTc (τ := τ) (main (F := F))) (s₀ m ρ) (fun r => (∀ c, Final m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun c w => w.elim0)
    (hdistinct := winFacts0.arr_inj)
    (O₀ := fun c => OB c 7) (howed₀ := fun _ => rfl) (howedN := fun _ => rfl)
    (L := L) (lv := lv) (hL := L_of_ne) (hwaits := waits m)
    (G := dealt m) (G' := ghost m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund_pair m) $$ HX with HG
      imodintro
      isplitl [HP] <;> iassumption)
    (hglob := glob m)
    (hA := fun _ _ => rfl) (hpf := fun _ k => k.elim0)
    (X := start m) (Y := fun c => iprop(unscopedSems0 c ∗ atEnd m c)) (Z := fun _ => iprop(emp))
    (hX := start_intro m ρ) (hin := before_intro m) (hout := done_exit m)
    (QY := fun c s => Final m c s ∧ ∀ sm : SemLoc sig, sm.isScoped .tc = false → s.sem ((c.tc : Thread nD τ), sm) = 0)
    (hY := fun c s' => read_end m c s')
    (hQ := fun _ h hs => ⟨fun c => (h c).2.2.1, sem_eq_zero hs fun c => (h c).2.2.2⟩)

end Cert.Exchange

end
-- ==== Proof.Frames.lean ====
/-
  The frames: each program runs to its end, leaves its arguments as they were and every semaphore counter at zero.
-/
module

public import proofs.«01_k».proof.Defs
public import proofs.«01_k».proof.Proof.Gen.Kernel
public import proofs.«01_k».proof.Proof.Gen.ReferenceIdeal.Run
public import proofs.«01_k».proof.Proof.Gen.Pre_labels_in_range_KernelIdeal
public import proofs.«01_k».proof.Proof.Gen.Pre_labels_in_range_ReferenceIdeal
public import proofs.«01_k».proof.Proof.Launch
public import Idealize.ShloMosaic.Lib.Quiescent

@[expose] public section

noncomputable section

namespace Cert.Exchange

open Idealize.ShloMosaic Idealize.SL.Sem

/-- The kernel at its bit-exact floats: its text is that of the idealized kernel. -/
theorem frame_kernel : Cert.quiescent_Kernel := fun m ρ _ =>
  (θ_run Cert.KernelIdeal.defs _ _).mono (fun _ h => ⟨fun c => (h.1 c).2, h.2⟩) (run_main (F := Bits) m ρ)

/-- The kernel at the ideal floats. -/
theorem frame_ideal : Cert.quiescent_KernelIdeal := fun m ρ _ =>
  (θ_run Cert.KernelIdeal.defs _ _).mono (fun _ h => ⟨fun c => (h.1 c).2, h.2⟩) (run_main (F := Ideal) m ρ)

/-- The reference at the ideal floats: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The ideal kernel's frame, of the memories whose labels are in range. -/
theorem frame_ideal_pre : Cert.quiescent_KernelIdeal_pre_labels_in_range_KernelIdeal := fun m ρ _ => frame_ideal m ρ trivial

/-- The ideal reference's frame, of the memories whose labels are in range. -/
theorem frame_reference_pre : Cert.quiescent_ReferenceIdeal_pre_labels_in_range_ReferenceIdeal := fun m ρ _ =>
  frame_reference m ρ trivial

end Cert.Exchange

end
-- ==== Proof.ValueMath.lean ====
/-
  The mathematics of the value claim, over the extended reals: a row's maximum, its sum of exponentials and the entry at the
  label, taken chunk by chunk and then combined, are those of the whole row. No entry need be finite.
-/
module

public import Idealize.ShloMosaic.PureOps.Ideal
public import Idealize.ShloMosaic.PureOps.Ideal.Laws

@[expose] public section

noncomputable section

namespace Cert.Exchange

open Idealize.ShloMosaic

/-- An exponential is not negative. -/
theorem exp_nonneg' (a : EReal) : 0 ≤ Ideal.exp a := by
  induction a with
  | bot => simp
  | coe r => rw [Ideal.exp_coe]; exact_mod_cast (Real.exp_pos r).le
  | top => simp

/-- Below `+∞` taken away, every exponential vanishes: `a - ⊤` is `⊥`. -/
theorem exp_sub_top (a : EReal) : Ideal.exp (a - ⊤) = 0 := by
  rw [sub_eq_add_neg, EReal.neg_top, EReal.add_bot, Ideal.exp_bot]

/-- `⊥` less anything is `⊥`. -/
theorem exp_bot_sub (b : EReal) : Ideal.exp (⊥ - b) = 0 := by
  rw [sub_eq_add_neg, EReal.bot_add, Ideal.exp_bot]

/-- Changing the number that is taken away before the exponential: for `l ≤ a ≤ b`, `e^(l-a) · e^(a-b) = e^(l-b)`. It holds at the
    infinities too, where both sides are 0. -/
theorem exp_rescale {l a b : EReal} (hl : l ≤ a) (ha : a ≤ b) :
    Ideal.exp (l - a) * Ideal.exp (a - b) = Ideal.exp (l - b) := by
  induction b with
  | top => rw [exp_sub_top, exp_sub_top, mul_zero]
  | bot =>
    obtain rfl := le_bot_iff.mp ha
    obtain rfl := le_bot_iff.mp hl
    rw [exp_bot_sub, mul_zero]
  | coe b =>
    induction a with
    | top => exact absurd (top_le_iff.mp ha) (EReal.coe_ne_top b)
    | bot =>
      obtain rfl := le_bot_iff.mp hl
      rw [exp_bot_sub, exp_bot_sub, mul_zero]
    | coe a =>
      induction l with
      | top => exact absurd (top_le_iff.mp hl) (EReal.coe_ne_top a)
      | bot => rw [exp_bot_sub, exp_bot_sub, zero_mul]
      | coe l =>
        rw [← EReal.coe_sub, ← EReal.coe_sub, ← EReal.coe_sub, Ideal.exp_coe, Ideal.exp_coe, Ideal.exp_coe, ← EReal.coe_mul,
          ← Real.exp_add]
        congr 2; ring

/-- A finite sum of numbers none of which is negative, times a number, is the sum of the products. -/
theorem sum_mul_nonneg {ι : Type*} (s : Finset ι) (f : ι → EReal) (hf : ∀ i, 0 ≤ f i) (b : EReal) :
    (∑ i ∈ s, f i) * b = ∑ i ∈ s, f i * b := by
  classical
  induction s using Finset.induction with
  | empty => simp
  | insert a s ha ih =>
    rw [Finset.sum_insert ha, Finset.sum_insert ha, EReal.right_distrib_of_nonneg (hf a) (Finset.sum_nonneg fun i _ => hf i), ih]

variable {K V ι : Type} [Fintype K] [Fintype V] [Fintype ι]

/-- The greatest entry of a finite family (`⊥` of none). -/
def greatest (f : ι → EReal) : EReal := Finset.univ.sup f

/-- The fold of `max` from `⊥` is the greatest entry. -/
theorem fold_max_eq (f : ι → EReal) : (Finset.univ : Finset ι).fold max ⊥ f = greatest f := rfl

/-- The sum of the exponentials of a family's entries less `a`. -/
def expSum (f : ι → EReal) (a : EReal) : EReal := ∑ i, Ideal.exp (f i - a)

/-- No entry is above the greatest. -/
theorem le_greatest (f : ι → EReal) (i : ι) : f i ≤ greatest f := Finset.le_sup (Finset.mem_univ i)

/-- The greatest entry of all chunks' greatest entries is the greatest entry of the whole family. -/
theorem greatest_chunks (e : K × V ≃ ι) (f : ι → EReal) : (greatest fun k => greatest fun v => f (e (k, v))) = greatest f := by
  refine le_antisymm (Finset.sup_le fun k _ => Finset.sup_le fun v _ => le_greatest f _) (Finset.sup_le fun i _ => ?_)
  have h := (le_greatest (fun v => f (e ((e.symm i).1, v))) (e.symm i).2).trans
    (le_greatest (fun k => greatest fun v => f (e (k, v))) (e.symm i).1)
  simpa using h

/-- The chunks' sums of exponentials, each rescaled from its own greatest entry to that of the whole family, add up to the family's
    sum of exponentials. -/
theorem expSum_chunks (e : K × V ≃ ι) (f : ι → EReal) :
    (∑ k, expSum (fun v => f (e (k, v))) (greatest fun v => f (e (k, v))) * Ideal.exp ((greatest fun v => f (e (k, v))) - greatest f))
      = expSum f (greatest f) := by
  have h (k : K) : expSum (fun v => f (e (k, v))) (greatest fun v => f (e (k, v))) * Ideal.exp ((greatest fun v => f (e (k, v))) - greatest f)
      = ∑ v, Ideal.exp (f (e (k, v)) - greatest f) := by
    unfold expSum
    rw [sum_mul_nonneg _ _ fun v => exp_nonneg' _]
    exact Finset.sum_congr rfl fun v _ => exp_rescale (le_greatest (fun v => f (e (k, v))) v)
      (Finset.sup_le fun v _ => le_greatest f _)
  simp only [h]
  rw [← Fintype.sum_prod_type' (f := fun k v => Ideal.exp (f (e (k, v)) - greatest f))]
  exact e.sum_comp fun i => Ideal.exp (f i - greatest f)

/-- The entry at one place, found chunk by chunk: the sum over the chunks of the sums that take the entry where the place is met and
    0 elsewhere. -/
theorem pick_chunks [DecidableEq ι] (e : K × V ≃ ι) (f : ι → EReal) (j : ι) :
    (∑ k, ∑ v, if e (k, v) = j then f (e (k, v)) else 0) = f j := by
  rw [← Fintype.sum_prod_type' (f := fun k v => if e (k, v) = j then f (e (k, v)) else 0)]
  rw [show (∑ x : K × V, if e (x.1, x.2) = j then f (e (x.1, x.2)) else 0) = ∑ i, if i = j then f i else 0 from
    e.sum_comp fun i => if i = j then f i else 0]
  simp

end Cert.Exchange
-- ==== Proof.ValueKernel.lean ====
/-
  What the idealized kernel computes, element by element: the three rows a device shares, and the result it makes of the eight
  devices' rows.
-/
module

public import proofs.«01_k».proof.Proof.Body2
public import proofs.«01_k».proof.Proof.ValueMath
public import Idealize.ShloMosaic.Lib.Pointwise
public import Idealize.ShloMosaic.Lib.WordCmp
public import Idealize.ShloMosaic.Lib.Layout

@[expose] public section

noncomputable section

namespace Cert.Exchange

open Cert.KernelIdeal Cert.KernelIdeal.Gen
open Idealize.ShloMosaic
open Idealize.ShloMosaic.TcCoe

/-- A row's products with the columns of a device's slice. -/
def chunk (x : Vec Ideal S256x512 .f32) (w : Vec Ideal S512x2048 .f32) (t : Fin 256) (n : Fin 2048) : EReal :=
  ∑ k : Fin 512, x (ix2 t k) * w (ix2 k n)

/-- The f32 word of `-∞` stands for `⊥`, so a fold of `max` from it takes the greatest entry. -/
theorem fold_max_neg_inf {n : ℕ} (f : Fin n → EReal) :
    (Finset.univ : Finset (Fin n)).fold max (Ideal.ofBits .f32 0xFF800000#32) f = greatest f := by
  rw [show Ideal.ofBits .f32 0xFF800000#32 = ⊥ by simp [Ideal.ofBits, Ideal.ieee], fold_max_eq]

/-- The first row shared: each row's greatest logit in the slice. -/
theorem pay3_apply (x : Vec Ideal S256x512 .f32) (w : Vec Ideal S512x2048 .f32) (t : Fin 256) :
    k0_pay3 x w (ix1 t) = greatest (chunk x w t) := by
  pointwise [k0_pay3, k0_pay2]
  exact fold_max_neg_inf _

/-- The second: each row's sum of exponentials of its logits in the slice, less the greatest of them. -/
theorem pay4_apply (x : Vec Ideal S256x512 .f32) (w : Vec Ideal S512x2048 .f32) (t : Fin 256) :
    k0_pay4 x w (ix1 t) = expSum (chunk x w t) (greatest (chunk x w t)) := by
  pointwise [k0_pay4, k0_pay2, chunk, expSum, pay3_apply]

/-- A word that says whether two words are equal, selected on. -/
theorem select_eq {x y : BitVec 32} (a b : EReal) : Scalar.select (IntOp.cmpi .eq x y) a b = if x = y then a else b := by
  rw [WordCmp.cmpi_eq_eq]
  by_cases h : x = y
  · rw [if_pos h, decide_eq_true h]; rfl
  · rw [if_neg h, decide_eq_false h]; rfl

/-- The third: each row's logit at the column its label names, or 0. -/
theorem pay5_apply (b : BitVec 32) (x : Vec Ideal S256x512 .f32) (w : Vec Ideal S512x2048 .f32) (l : Vec Ideal S256 .i32) (t : Fin 256) :
    k0_pay5 b x w l (ix1 t) = ∑ n : Fin 2048, if BitVec.ofNat 32 n.val + b = l (ix1 t) then chunk x w t n else 0 := by
  pointwise [k0_pay5, k0_pay2]
  exact Finset.sum_congr rfl fun n _ => select_eq _ _

/-- What a device makes of the eight devices' rows. -/
theorem pay9_apply (M S L : Vec Ideal S8x1x256 .f32) (t : Fin 256) :
    k0_pay1 (k0_pay9 M S L) (ix1 t)
      = (greatest fun k : Fin 8 => M (ix3 k 0 t))
        + Ideal.log (∑ k : Fin 8, S (ix3 k 0 t) * Ideal.exp (M (ix3 k 0 t) - greatest fun k : Fin 8 => M (ix3 k 0 t)))
        - ∑ k : Fin 8, L (ix3 k 0 t) := by
  pointwise [k0_pay1, k0_pay9]
  rw [fold_max_neg_inf]

/-! ## The columns -/

/-- The column of the whole `W` that is column `n` of device `c`'s slice. -/
def col (c : Dev nD) (n : Fin 2048) : Fin 16384 :=
  ⟨4096 * (c.val / 4 % 4) + 2048 * (c.val / 16 % 2) + n.val, by have := n.isLt; omega⟩

/-- The first column of the slice, as the kernel computes it. -/
theorem baseOf_eq (c : Dev nD) : baseOf c = BitVec.ofNat 32 (4096 * (c.val / 4 % 4) + 2048 * (c.val / 16 % 2)) := by
  revert c; decide +kernel

/-- The word the kernel compares with a label is the label when the column is. -/
theorem word_eq_iff (c : Dev nD) (n : Fin 2048) {l : BitVec 32} (h : l.toNat < 16384) :
    BitVec.ofNat 32 n.val + baseOf c = l ↔ col c n = ⟨l.toNat, h⟩ := by
  have hn := n.isLt
  rw [baseOf_eq, ← BitVec.toNat_inj, BitVec.toNat_add, BitVec.toNat_ofNat, BitVec.toNat_ofNat, Fin.ext_iff]
  show _ ↔ 4096 * (c.val / 4 % 4) + 2048 * (c.val / 16 % 2) + n.val = l.toNat
  omega

/-- The second mesh coordinate of a device of the group. -/
theorem mate_y (c : Dev nD) (k : Fin 8) : (mate c k).val / 4 % 4 = (c.val / 4 + k.val) % 4 := by
  show (16 * ((c.val / 16 + k.val / 4) % 2) + 4 * ((c.val / 4 + k.val) % 4) + c.val % 4) / 4 % 4 = _
  omega

/-- The first mesh coordinate of a device of the group. -/
theorem mate_x (c : Dev nD) (k : Fin 8) : (mate c k).val / 16 % 2 = (c.val / 16 + k.val / 4) % 2 := by
  show (16 * ((c.val / 16 + k.val / 4) % 2) + 4 * ((c.val / 4 + k.val) % 4) + c.val % 4) / 16 % 2 = _
  omega

/-- The eight devices of a group have, between them, each column once. -/
theorem col_injective (c : Dev nD) : Function.Injective fun p : Fin 8 × Fin 2048 => col (mate c p.1) p.2 := by
  rintro ⟨k, n⟩ ⟨k', n'⟩ h
  have h : 4096 * ((mate c k).val / 4 % 4) + 2048 * ((mate c k).val / 16 % 2) + n.val
      = 4096 * ((mate c k').val / 4 % 4) + 2048 * ((mate c k').val / 16 % 2) + n'.val := congrArg Fin.val h
  have hk := k.isLt; have hk' := k'.isLt; have hn := n.isLt; have hn' := n'.isLt
  rw [mate_y, mate_y, mate_x, mate_x] at h
  have e1 : (c.val / 4 + k.val) % 4 = (c.val / 4 + k'.val) % 4 := by omega
  have e2 : (c.val / 16 + k.val / 4) % 2 = (c.val / 16 + k'.val / 4) % 2 := by omega
  have e3 : n.val = n'.val := by omega
  have e4 : k.val = k'.val := by omega
  exact Prod.ext (Fin.ext e4) (Fin.ext e3)

/-- So chunk and place in it are the same as the column. -/
def colEquiv (c : Dev nD) : Fin 8 × Fin 2048 ≃ Fin 16384 :=
  Equiv.ofBijective (fun p => col (mate c p.1) p.2)
    ((Fintype.bijective_iff_injective_and_card _).mpr ⟨col_injective c, by
      rw [Fintype.card_prod, Fintype.card_fin, Fintype.card_fin, Fintype.card_fin]⟩)

/-- The column at place `n` of chunk `k`. -/
theorem colEquiv_apply (c : Dev nD) (k : Fin 8) (n : Fin 2048) : colEquiv c (k, n) = col (mate c k) n := rfl

/-! ## The contents -/

variable (m : (ℓ : Loc nD τ sig) → Buf (Elt Ideal) ℓ)

/-- The slice of `W` a device works on, where its block is the block of a whole `W'` that the mesh gives it. -/
theorem wOf_apply (c : Dev nD) (W' : (⟨2, ![512, 16384]⟩ : Shape).Idx → EReal)
    (h : m ((c : Thread nD τ).loc main_arg1)
      = Layout.blockN ⟨2, ![512, 4096]⟩ ⟨2, ![512, 16384]⟩ (Layout.meshBlock [2, 4, 4] ![[], [1]] c) W')
    (k : Fin 512) (n : Fin 2048) : wOf m c (ix2 k n) = W' (ix2 k (col c n)) := by
  have e : wOf m c (ix2 k n) = m ((c : Thread nD τ).loc main_arg1) ((wM c).view.emb (ix2 k n)) := rfl
  rw [e, h]
  refine congrArg W' (funext fun a => Fin.ext ?_)
  have hc : c.val < 32 := c.isLt
  match a with
  | ⟨0, _⟩ =>
    show 0 * 512 + (k0_off1 c 0 + 1 * k.val) = k.val
    rw [k0_off1_eq]; show 0 * 512 + (0 + 1 * k.val) = k.val
    omega
  | ⟨1, _⟩ =>
    show (c.val / 4 % 4 * 1 + 0) * 4096 + (k0_off1 c 1 + 1 * n.val) = 4096 * (c.val / 4 % 4) + 2048 * (c.val / 16 % 2) + n.val
    rw [k0_off1_eq]; show (c.val / 4 % 4 * 1 + 0) * 4096 + (2048 * (c.val / 16) + 1 * n.val) = _
    omega

/-- The rows gathered, read at device `k` of the group. -/
theorem rowsAll_apply (c : Dev nD) (r : Fin 3) (k : Fin 8) (t : Fin 256) :
    rowsAll m c r (ix3 k 0 t) = statOf m (mate c k) r (ix1 t) := by
  have e : (Rect.unit (s := S8x3x256) ![0, r.val, 0] S8x1x256.size (col_inb r)).emb (ix3 k 0 t) = ix3 k r t := by
    funext a; refine Fin.ext ?_
    match a with
    | ⟨0, _⟩ => show 0 + 1 * k.val = k.val; omega
    | ⟨1, _⟩ => show r.val + 1 * 0 = r.val; omega
    | ⟨2, _⟩ => show 0 + 1 * t.val = t.val; omega
  show recvAll m c ((Rect.unit (s := S8x3x256) ![0, r.val, 0] S8x1x256.size (col_inb r)).emb (ix3 k 0 t)) = _
  rw [e, ix1_eq_valueIdx]
  rfl

end Cert.Exchange
-- ==== Proof.ValueRef.lean ====
/-
  What the idealized reference computes, element by element.
-/
module

public import proofs.«01_k».proof.Proof.Gen.ReferenceIdeal.Run
public import proofs.«01_k».proof.Proof.ValueMath
public import Idealize.ShloMosaic.Lib.Pointwise
public import Idealize.ShloMosaic.Lib.WordCmp

@[expose] public section

noncomputable section

namespace Cert.Exchange

open Cert.ReferenceIdeal Cert.ReferenceIdeal.Gen
open Idealize.ShloMosaic
open Idealize.ShloMosaic.TcCoe

/-- A row's logits: its products with all the columns of `W`. -/
def logits (x : Vec Ideal S256x512 .f32) (w : Vec Ideal S512x16384 .f32) (t : Fin 256) (v : Fin 16384) : EReal :=
  ∑ k : Fin 512, x (ix2 t k) * w (ix2 k v)

/-- The reference's matrix product holds the logits. -/
theorem ref_dot (x : FVec Ideal S256x512 .f32) (w : FVec Ideal S512x16384 .f32) (t : Fin 256) (v : Fin 16384) :
    Host.dotGeneral dot_S256x512_S512x16384_S256x16384_1_0_0_1_n_n none x w (ix2 t v) = logits x w t v := by
  pointwise [logits]

/-- The f32 word of `-∞` stands for `⊥`. -/
theorem ofBits_neg_inf : Ideal.ofBits .f32 0xFF800000#32 = ⊥ := by simp [Ideal.ofBits, Ideal.ieee]

/-- Reducing the columns leaves the rows. -/
theorem row_reduces : S256x16384.Reduces [1] S256 := by decide

/-- Putting column `v` into row index `t`. -/
theorem row_lift (t : Fin 256) (v : Fin 16384) : row_reduces.lift (ix1 t) v = ix2 t v := by
  funext a; match a with | ⟨0, _⟩ => rfl | ⟨1, _⟩ => rfl

/-- The reference's reduction by maximum takes a row's greatest entry. -/
theorem ref_max (z : FVec Ideal S256x16384 .f32) (t : Fin 256) :
    Host.reduce FloatOps.maximumf z (constant S_ .f32 0xFF800000#32) reducesTo_S256x16384_S256_d1 h_S_ (ix1 t)
      = greatest (fun v : Fin 16384 => z (ix2 t v)) := by
  refine (Host.reduce_eq_fold_single _ _ _ _ row_reduces _ _).trans ?_
  have e : (z ∘ row_reduces.lift (ix1 t)) = fun v : Fin 16384 => z (ix2 t v) := funext fun v => congrArg z (row_lift t v)
  rw [e, ← fold_max_eq, ← ofBits_neg_inf]
  rfl

/-- The reference's reduction by addition sums a row. -/
theorem ref_sum (z : FVec Ideal S256x16384 .f32) (t : Fin 256) :
    Host.reduceAdd z (constant S_ .f32 0x00000000#32) reducesTo_S256x16384_S256_d1 h_S_ (ix1 t)
      = ∑ v : Fin 16384, z (ix2 t v) := by
  refine (Ideal.hostReduceAdd_single _ row_reduces _ _ _).trans ?_
  have e : (∑ v, z (row_reduces.lift (ix1 t) v)) = ∑ v : Fin 16384, z (ix2 t v) :=
    Finset.sum_congr rfl fun v _ => congrArg z (row_lift t v)
  have e0 : Ideal.ofBits .f32 0x00000000#32 = 0 := by simp [Ideal.ofBits, Ideal.ieee]
  exact (congrArg₂ (· + ·) e0 e).trans (zero_add _)

/-- The exponentials the reference sums. -/
theorem ref_exp (z : FVec Ideal S256x16384 .f32) (M : FVec Ideal S256 .f32) (t : Fin 256) (v : Fin 16384) :
    Host.exp (subf z (broadcastInDim S256x16384 ![0, 1] bcast_S256x1_S256x16384_0_1 (broadcastInDim S256x1 ![0] bcast_S256_S256x1_0 M))) (ix2 t v)
      = Ideal.exp (z (ix2 t v) - M (ix1 t)) := by
  pointwise

/-- How the reference combines a row's maximum, sum and picked logit. -/
theorem ref_row (M S g : FVec Ideal S256 .f32) (t : Fin 256) :
    subf (shapeCast _ (addf (broadcastInDim S256x1 ![0] bcast_S256_S256x1_0 M) (Host.log (broadcastInDim S256x1 ![0] bcast_S256_S256x1_0 S))) shapeCasts_S256x1_S256) g (ix1 t)
      = M (ix1 t) + Ideal.log (S (ix1 t)) - g (ix1 t) := by
  pointwise

/-- The pairs of indices the reference gathers at: the row's number and its label, each wrapped if negative. -/
def refPairs (l : IVec S256 32) : IVec S256x2 32 :=
  concatenate S256x2 1 [⟨S256x1, (broadcastInDim S256x1 ![0] bcast_S256_S256x1_0 (select (cmpi .slt (iotaInDim S256 32 0) (broadcastInDim S256 ![] bcast_S_S256 (constantI S_ 32 0#32))) (addi (iotaInDim S256 32 0) (broadcastInDim S256 ![] bcast_S_S256 (constantI S_ 32 256#32))) (iotaInDim S256 32 0)))⟩, ⟨S256x1, (broadcastInDim S256x1 ![0] bcast_S256_S256x1_0 (select (cmpi .slt l (broadcastInDim S256 ![] bcast_S_S256 (constantI S_ 32 0#32))) (addi l (broadcastInDim S256 ![] bcast_S_S256 (constantI S_ 32 16384#32))) l))⟩] concatenates_S256x1_S256x1_S256x2_d1

/-- A word below `2^31` is not negative, so it is taken as it is. -/
theorem wrap_of_lt {x : BitVec 32} (h : x.toNat < 2 ^ 31) (y : BitVec 32) :
    Scalar.select (IntOp.cmpi .slt x 0#32) y x = x := by
  rw [WordCmp.cmpi_slt_zero, show decide (2 ^ (32 - 1) ≤ x.toNat) = false from decide_eq_false (by omega)]
  rfl

/-- The first of row `t`'s pair is `t`. -/
theorem refPairs_row (l : IVec S256 32) (t : Fin 256) : refPairs l (ix2 t 0) = BitVec.ofNat 32 t.val := by
  pointwise [refPairs]
  exact wrap_of_lt (by have := t.isLt; rw [BitVec.toNat_ofNat]; omega) _

/-- The second is row `t`'s label, if that is not negative. -/
theorem refPairs_label (l : IVec S256 32) (t : Fin 256) (h : (l (ix1 t)).toNat < 16384) : refPairs l (ix2 t 1) = l (ix1 t) := by
  pointwise [refPairs]
  exact wrap_of_lt (by omega) _

/-- Reading the gather's start: component `a` of the pair of row `t`, held to the axis's extent. -/
theorem ref_start (i : IVec S256x2 32) (t : Fin 256) (a : Fin 2) :
    gather_S256x16384_S256x2_S256_n_01_n_n_01_1_11.start (ix1 t) i a = min (i (ix2 t a)).toInt.toNat (S256x16384.size a - 1) := by
  unfold GatherDims.start
  match a with
  | 0 =>
    rw [dif_pos (show (0 : Fin 2) ∈ gather_S256x16384_S256x2_S256_n_01_n_n_01_1_11.startIndexMap from List.mem_cons_self)]
    congr 4; funext b; match b with | ⟨0, _⟩ => rfl | ⟨1, _⟩ => rfl
  | 1 =>
    rw [dif_pos (show (1 : Fin 2) ∈ gather_S256x16384_S256x2_S256_n_01_n_n_01_1_11.startIndexMap from List.mem_cons_of_mem _ List.mem_cons_self)]
    congr 4; funext b; match b with | ⟨0, _⟩ => rfl | ⟨1, _⟩ => rfl

/-- The reference's gather picks each row's logit at its label. -/
theorem ref_pick (z : FVec Ideal S256x16384 .f32) (l : IVec S256 32) (t : Fin 256) (h : (l (ix1 t)).toNat < 16384) :
    Host.gather gather_S256x16384_S256x2_S256_n_01_n_n_01_1_11 z (refPairs l) (ix1 t) = z (ix2 t ⟨(l (ix1 t)).toNat, h⟩) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil, GatherDims.offCoord_eq_zero _ _ _ (by revert a; decide), ref_start]
  match a with
  | 0 =>
    rw [refPairs_row, BitVec.toInt_eq_toNat_of_lt (by have := t.isLt; rw [BitVec.toNat_ofNat]; omega), BitVec.toNat_ofNat]
    show min (t.val % 2 ^ 32) 255 = t.val
    have := t.isLt; omega
  | 1 =>
    rw [refPairs_label l t h, BitVec.toInt_eq_toNat_of_lt (by omega)]
    show min (l (ix1 t)).toNat 16383 = (l (ix1 t)).toNat
    omega

/-- The reference's result. -/
def refOut (x : FVec Ideal S256x512 .f32) (w : FVec Ideal S512x16384 .f32) (l : IVec S256 32) : FVec Ideal S256 .f32 :=
  have z : FVec Ideal S256x16384 .f32 := Host.dotGeneral dot_S256x512_S512x16384_S256x16384_1_0_0_1_n_n none x w
  have M : FVec Ideal S256 .f32 := Host.reduce FloatOps.maximumf z (constant S_ .f32 0xFF800000#32) reducesTo_S256x16384_S256_d1 h_S_
  have S : FVec Ideal S256 .f32 := Host.reduceAdd (Host.exp (subf z (broadcastInDim S256x16384 ![0, 1] bcast_S256x1_S256x16384_0_1 (broadcastInDim S256x1 ![0] bcast_S256_S256x1_0 M)))) (constant S_ .f32 0x00000000#32) reducesTo_S256x16384_S256_d1 h_S_
  subf (shapeCast _ (addf (broadcastInDim S256x1 ![0] bcast_S256_S256x1_0 M) (Host.log (broadcastInDim S256x1 ![0] bcast_S256_S256x1_0 S))) shapeCasts_S256x1_S256) (Host.gather gather_S256x16384_S256x2_S256_n_01_n_n_01_1_11 z (refPairs l))

/-- A row's loss, of its logits and its label: the logarithm of the sum of the exponentials, by way of the greatest logit, less the
    label's logit. -/
def loss (f : Fin 16384 → EReal) (j : Fin 16384) : EReal := greatest f + Ideal.log (expSum f (greatest f)) - f j

/-- The reference's result holds each row's loss, where the labels are columns. -/
theorem refOut_apply (x : FVec Ideal S256x512 .f32) (w : FVec Ideal S512x16384 .f32) (l : IVec S256 32) (t : Fin 256)
    (h : (l (ix1 t)).toNat < 16384) : refOut x w l (ix1 t) = loss (logits x w t) ⟨(l (ix1 t)).toNat, h⟩ := by
  unfold refOut
  dsimp only
  rw [ref_row, ref_sum, ref_pick _ _ _ h, Finset.sum_congr rfl fun v _ => ref_exp _ _ t v, ref_max]
  simp only [ref_dot, loss, expSum]

/-- The reference runs to its end and leaves its result; its arguments stay. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26) = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

end Cert.Exchange
-- ==== Proof.Algebraic.lean ====
/-
  The value claim: where the labels are columns, every device of the idealized kernel ends with what the idealized reference makes
  of the whole arrays.
-/
module

public import proofs.«01_k».proof.Defs
public import proofs.«01_k».proof.Proof.Gen.KernelIdeal
public import proofs.«01_k».proof.Proof.Gen.ReferenceIdeal
public import proofs.«01_k».proof.Proof.Gen.Pre_labels_in_range_KernelIdeal
public import proofs.«01_k».proof.Proof.Launch
public import proofs.«01_k».proof.Proof.ValueKernel
public import proofs.«01_k».proof.Proof.ValueRef
public import Idealize.ShloMosaic.Lib.ReduceAll

@[expose] public section

noncomputable section

namespace Cert.Exchange

open Cert.KernelIdeal Cert.KernelIdeal.Gen
open Idealize.ShloMosaic Idealize.SL.Sem
open Idealize.ShloMosaic.TcCoe

/-- A signed word that is at least 0 and below 16384 is below 16384 read as a natural number. -/
theorem lt_of_bounds {x : BitVec 32} (h0 : IntOp.cmpi .sge x 0#32 = 1#1) (h1 : IntOp.cmpi .slt x 16384#32 = 1#1) :
    x.toNat < 16384 := by
  rw [WordCmp.cmpi_sge_eq] at h0
  rw [WordCmp.cmpi_slt_eq] at h1
  have h0 : (0#32).toInt ≤ x.toInt := by by_contra h; rw [decide_eq_false h] at h0; exact absurd h0 (by decide)
  have h1 : x.toInt < (16384#32).toInt := by by_contra h; rw [decide_eq_false h] at h1; exact absurd h1 (by decide)
  rw [show (0#32).toInt = 0 by decide, BitVec.toInt_eq_toNat_cond] at h0
  rw [show (16384#32).toInt = 16384 by decide, BitVec.toInt_eq_toNat_cond] at h1
  have := x.isLt
  split at h0 <;> omega

/-- What the precondition says: every label is a column's number. -/
theorem label_lt (x : FVec Ideal S256x512 .f32) (w : FVec Ideal S512x4096 .f32) (l : IVec S256 32)
    (h : Cert.Pre_labels_in_range_KernelIdeal.fn (F := Ideal) x w l = fun _ => 1#1) (t : Fin 256) : (l (ix1 t)).toNat < 16384 := by
  have e := congrFun h (fun a => a.elim0)
  simp only [Cert.Pre_labels_in_range_KernelIdeal.fn] at e
  have e := Host.reduce_andi_all _ _ _ _ _ e (ix1 t)
  obtain ⟨h0, h1⟩ := IntOp.andi_eq_one.1 e
  exact lt_of_bounds h0 h1

variable (m : (ℓ : Loc nD τ sig) → Buf (Elt Ideal) ℓ)

/-- A device's result, of the whole arrays: each row's loss. -/
theorem outAt_apply (X : FVec Ideal Cert.ReferenceIdeal.S256x512 .f32) (W : FVec Ideal Cert.ReferenceIdeal.S512x16384 .f32)
    (l : IVec Cert.ReferenceIdeal.S256 32)
    (hX : ∀ d : Dev nD, m ((d : Thread nD τ).loc main_arg0) = X)
    (hW : ∀ d : Dev nD, m ((d : Thread nD τ).loc main_arg1)
      = Layout.blockN ⟨2, ![512, 4096]⟩ ⟨2, ![512, 16384]⟩ (Layout.meshBlock [2, 4, 4] ![[], [1]] d) W)
    (hl : ∀ d : Dev nD, m ((d : Thread nD τ).loc main_arg2) = l) (c : Dev nD) (t : Fin 256) (h : (l (ix1 t)).toNat < 16384) :
    outAt m c (ix1 t) = loss (logits X W t) ⟨(l (ix1 t)).toNat, h⟩ := by
  have ec (d : Dev nD) : chunk (xOf m d) (wOf m d) t = fun n => logits X W t (col d n) := funext fun n =>
    Finset.sum_congr rfl fun k _ => congrArg₂ (· * ·) (congrFun (hX d) _) (wOf_apply m d W (hW d) k n)
  have e0 (k : Fin 8) : rowsAll m c 0 (ix3 k 0 t) = greatest fun n => logits X W t (colEquiv c (k, n)) := by
    rw [rowsAll_apply]; exact (pay3_apply _ _ t).trans (congrArg greatest (ec _))
  have e1 (k : Fin 8) : rowsAll m c 1 (ix3 k 0 t)
      = expSum (fun n => logits X W t (colEquiv c (k, n))) (greatest fun n => logits X W t (colEquiv c (k, n))) := by
    rw [rowsAll_apply]; exact (pay4_apply _ _ t).trans (congrArg (fun f => expSum f (greatest f)) (ec _))
  have e2 (k : Fin 8) : rowsAll m c 2 (ix3 k 0 t)
      = ∑ n, if colEquiv c (k, n) = ⟨(l (ix1 t)).toNat, h⟩ then logits X W t (colEquiv c (k, n)) else 0 := by
    rw [rowsAll_apply]
    refine (pay5_apply _ _ _ _ t).trans (Finset.sum_congr rfl fun n _ => ?_)
    have el : lblOf m (mate c k) (ix1 t) = l (ix1 t) := congrFun (hl _) _
    rw [el, congrFun (ec (mate c k)) n, colEquiv_apply]
    exact if_congr (word_eq_iff _ _ h) rfl rfl
  unfold outAt
  rw [pay9_apply]
  simp only [e0, e1, e2]
  rw [greatest_chunks (colEquiv c) (logits X W t), expSum_chunks (colEquiv c) (logits X W t),
    pick_chunks (colEquiv c) (logits X W t)]
  rfl

/-- The value claim. -/
theorem algebraic : Cert.algebraic_KernelIdeal_ReferenceIdeal_pre_labels_in_range_KernelIdeal := by
  intro m g m' g' hpre hargs
  refine ⟨_, (θ_run Cert.KernelIdeal.defs _ _).mono (fun _ h c => ⟨?_, (h.1 c).2⟩) (run_main (F := Ideal) m g),
    (θ_run Cert.ReferenceIdeal.defs _ _).mono (fun _ h => h 0) (run_ref m' g')⟩
  refine (h.1 c).1.trans (funext fun i => ?_)
  obtain ⟨t, rfl⟩ : ∃ t : Fin 256, i = ix1 t := ⟨i 0, eq_ix1 i⟩
  have hl := label_lt _ _ _ (hpre c) t
  rw [(hargs c).2.2] at hl
  exact (outAt_apply m _ _ _ (fun d => (hargs d).1) (fun d => (hargs d).2.1) (fun d => (hargs d).2.2) c t hl).trans
    (refOut_apply _ _ _ t hl).symm

end Cert.Exchange
-- ==== Proof.lean ====
/- The claims of this certificate, each from the module that proves it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_labels_in_range_KernelIdeal
public import proofs.«01_k».proof.Proof.Gen.Pre_labels_in_range_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- All that is claimed. -/
theorem claim : Cert.Claim := ⟨Cert.Kernel.Gen.facts, Cert.KernelIdeal.Gen.facts, Cert.ReferenceIdeal.Gen.facts,
  Cert.Pre_labels_in_range_KernelIdeal.Gen.facts, Cert.Pre_labels_in_range_ReferenceIdeal.Gen.facts,
  Cert.Exchange.frame_kernel, Cert.Exchange.frame_ideal, Cert.Exchange.frame_ideal_pre, Cert.Exchange.frame_reference,
  Cert.Exchange.frame_reference_pre, trivial, Cert.Exchange.algebraic⟩

end Cert.Proof

end
